-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_in_range [hPre_in_range : Cert.Pre_in_range.Facts] (m : (ℓ : Loc Cert.KernelIdeal.nD Cert.KernelIdeal.τ Cert.KernelIdeal.sig) → Buf (Elt Ideal) ℓ) : Prop :=
  ∀ c : Dev Cert.KernelIdeal.nD,
    (Cert.Pre_in_range.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_in_range [hPre_in_range : Cert.Pre_in_range.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_in_range.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_KernelIdeal_pre_in_range [hKernelIdeal : Cert.KernelIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_in_range m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def quiescent_ReferenceIdeal_pre_in_range [hReferenceIdeal : Cert.ReferenceIdeal.Facts] [hPre_in_range : Cert.Pre_in_range.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_in_range m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))
      ∧ r.2.sem = fun _ => 0)

def preserves_Kernel_KernelIdeal : Prop :=
  True

def algebraic_KernelIdeal_ReferenceIdeal_pre_in_range [hKernelIdeal : Cert.KernelIdeal.Facts] [hReferenceIdeal : Cert.ReferenceIdeal.Facts] [hPre_in_range : Cert.Pre_in_range.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_in_range m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v10) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v43) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_in_range : Cert.Pre_in_range.Facts),
    quiescent_Kernel (hKernel := hKernel)
    ∧ quiescent_KernelIdeal (hKernelIdeal := hKernelIdeal)
    ∧ quiescent_KernelIdeal_pre_in_range (hKernelIdeal := hKernelIdeal) (hPre_in_range := hPre_in_range)
    ∧ quiescent_ReferenceIdeal (hReferenceIdeal := hReferenceIdeal)
    ∧ quiescent_ReferenceIdeal_pre_in_range (hReferenceIdeal := hReferenceIdeal) (hPre_in_range := hPre_in_range)
    ∧ preserves_Kernel_KernelIdeal
    ∧ algebraic_KernelIdeal_ReferenceIdeal_pre_in_range (hKernelIdeal := hKernelIdeal) (hReferenceIdeal := hReferenceIdeal) (hPre_in_range := hPre_in_range)
-- ==== Pre_in_range.lean ====
abbrev S16384x100 : Shape := ⟨2, ![16384, 100]⟩
abbrev S16384x13 : Shape := ⟨2, ![16384, 13]⟩
abbrev S1000000x16 : Shape := ⟨2, ![1000000, 16]⟩
abbrev S100000x16 : Shape := ⟨2, ![100000, 16]⟩
abbrev S20x16 : Shape := ⟨2, ![20, 16]⟩
abbrev S13x16 : Shape := ⟨2, ![13, 16]⟩
abbrev S10x16 : Shape := ⟨2, ![10, 16]⟩
abbrev S88x64 : Shape := ⟨2, ![88, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S116x1 : Shape := ⟨2, ![116, 1]⟩
abbrev S1 : Shape := ⟨1, ![1]⟩
abbrev S_ : Shape := ⟨0, ![]⟩

class Facts : Prop where
  bcast_S_S16384x13 : S_.BroadcastsInDim S16384x13 (![] : Fin 0 → Fin S16384x13.rank)
  reducesTo_S16384x13_S_d0_1 : S16384x13.ReducesTo [0, 1] S_
  h_S_ : 0 < S_.numel

variable [Facts]

def fn {F : FTy → Type} [FloatOps F] (main_arg0 : FVec F S16384x100 .f32) (main_arg1 : IVec S16384x13 32) (main_arg2 : FVec F S1000000x16 .f32) (main_arg3 : FVec F S100000x16 .f32) (main_arg4 : FVec F S20x16 .f32) (main_arg5 : FVec F S13x16 .f32) (main_arg6 : FVec F S10x16 .f32) (main_arg7 : FVec F S88x64 .f32) (main_arg8 : FVec F S64 .f32) (main_arg9 : FVec F S64x32 .f32) (main_arg10 : FVec F S32 .f32) (main_arg11 : FVec F S32x16 .f32) (main_arg12 : FVec F S16 .f32) (main_arg13 : FVec F S116x1 .f32) (main_arg14 : FVec F S1 .f32) : IVec S_ 1 :=
  let main_c : IVec S_ 32 := constantI S_ 32 0#32
  let main_v0 : IVec S16384x13 32 := broadcastInDim S16384x13 ![] bcast_S_S16384x13 main_c
  let main_v1 : IVec S16384x13 1 := cmpi .sge main_arg1 main_v0
  let main_c_0 : IVec S_ 32 := constantI S_ 32 10#32
  let main_v2 : IVec S16384x13 32 := broadcastInDim S16384x13 ![] bcast_S_S16384x13 main_c_0
  let main_v3 : IVec S16384x13 1 := cmpi .slt main_arg1 main_v2
  let main_v4 : IVec S16384x13 1 := andi main_v1 main_v3
  let main_c_1 : IVec S_ 1 := constantI S_ 1 1#1
  let main_v5 : IVec S_ 1 := (fun x v => Host.reduce IntOp.andi x v reducesTo_S16384x13_S_d0_1 h_S_) main_v4 main_c_1
  main_v5
-- ==== Kernel.lean ====
abbrev S16384x100 : Shape := ⟨2, ![16384, 100]⟩
abbrev S16384x13 : Shape := ⟨2, ![16384, 13]⟩
abbrev S1000000x16 : Shape := ⟨2, ![1000000, 16]⟩
abbrev S100000x16 : Shape := ⟨2, ![100000, 16]⟩
abbrev S20x16 : Shape := ⟨2, ![20, 16]⟩
abbrev S13x16 : Shape := ⟨2, ![13, 16]⟩
abbrev S10x16 : Shape := ⟨2, ![10, 16]⟩
abbrev S88x64 : Shape := ⟨2, ![88, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S116x1 : Shape := ⟨2, ![116, 1]⟩
abbrev S1 : Shape := ⟨1, ![1]⟩
abbrev S100x16384 : Shape := ⟨2, ![100, 16384]⟩
abbrev S13x16384 : Shape := ⟨2, ![13, 16384]⟩
abbrev S16x1000000 : Shape := ⟨2, ![16, 1000000]⟩
abbrev S16x100000 : Shape := ⟨2, ![16, 100000]⟩
abbrev S16x20 : Shape := ⟨2, ![16, 20]⟩
abbrev S64x88 : Shape := ⟨2, ![64, 88]⟩
abbrev S32x64 : Shape := ⟨2, ![32, 64]⟩
abbrev S16x32 : Shape := ⟨2, ![16, 32]⟩
abbrev S1x116 : Shape := ⟨2, ![1, 116]⟩
abbrev S2x1x8192 : Shape := ⟨3, ![2, 1, 8192]⟩
abbrev S100x8192 : Shape := ⟨2, ![100, 8192]⟩
abbrev S13x8192 : Shape := ⟨2, ![13, 8192]⟩
abbrev S16x128 : Shape := ⟨2, ![16, 128]⟩
abbrev S1x1x8192 : Shape := ⟨3, ![1, 1, 8192]⟩
abbrev S8x8192 : Shape := ⟨2, ![8, 8192]⟩
abbrev S16x1 : Shape := ⟨2, ![16, 1]⟩
abbrev S1x8192 : Shape := ⟨2, ![1, 8192]⟩
abbrev S16x8192 : Shape := ⟨2, ![16, 8192]⟩
abbrev S13x1 : Shape := ⟨2, ![13, 1]⟩
abbrev S10x1 : Shape := ⟨2, ![10, 1]⟩
abbrev S10x8192 : Shape := ⟨2, ![10, 8192]⟩
abbrev S71x8192 : Shape := ⟨2, ![71, 8192]⟩
abbrev S16x16 : Shape := ⟨2, ![16, 16]⟩
abbrev S64x16 : Shape := ⟨2, ![64, 16]⟩
abbrev S64x13 : Shape := ⟨2, ![64, 13]⟩
abbrev S64x10 : Shape := ⟨2, ![64, 10]⟩
abbrev S64x1 : Shape := ⟨2, ![64, 1]⟩
abbrev S64x71 : Shape := ⟨2, ![64, 71]⟩
abbrev S64x8192 : Shape := ⟨2, ![64, 8192]⟩
abbrev S64x8 : Shape := ⟨2, ![64, 8]⟩
abbrev S32x8192 : Shape := ⟨2, ![32, 8192]⟩
abbrev S32x1 : Shape := ⟨2, ![32, 1]⟩
abbrev S1x100 : Shape := ⟨2, ![1, 100]⟩
abbrev S1x16 : Shape := ⟨2, ![1, 16]⟩
abbrev S1x1 : Shape := ⟨2, ![1, 1]⟩
abbrev S16384x1 : Shape := ⟨2, ![16384, 1]⟩

abbrev nBuf : Space → Nat
  | .hbm => 26
  | .vmem => 19
  | .smem => 0
  | _ => 0

abbrev bufTy : (tb : Table) → Fin (tcTables nBuf tb) → BufTy
  | .hbm, ⟨0, _⟩ => ⟨S16384x100, .f32⟩
  | .hbm, ⟨1, _⟩ => ⟨S16384x13, .i32⟩
  | .hbm, ⟨2, _⟩ => ⟨S1000000x16, .f32⟩
  | .hbm, ⟨3, _⟩ => ⟨S100000x16, .f32⟩
  | .hbm, ⟨4, _⟩ => ⟨S20x16, .f32⟩
  | .hbm, ⟨5, _⟩ => ⟨S13x16, .f32⟩
  | .hbm, ⟨6, _⟩ => ⟨S10x16, .f32⟩
  | .hbm, ⟨7, _⟩ => ⟨S88x64, .f32⟩
  | .hbm, ⟨8, _⟩ => ⟨S64, .f32⟩
  | .hbm, ⟨9, _⟩ => ⟨S64x32, .f32⟩
  | .hbm, ⟨10, _⟩ => ⟨S32, .f32⟩
  | .hbm, ⟨11, _⟩ => ⟨S32x16, .f32⟩
  | .hbm, ⟨12, _⟩ => ⟨S16, .f32⟩
  | .hbm, ⟨13, _⟩ => ⟨S116x1, .f32⟩
  | .hbm, ⟨14, _⟩ => ⟨S1, .f32⟩
  | .hbm, ⟨15, _⟩ => ⟨S100x16384, .f32⟩
  | .hbm, ⟨16, _⟩ => ⟨S13x16384, .i32⟩
  | .hbm, ⟨17, _⟩ => ⟨S16x1000000, .f32⟩
  | .hbm, ⟨18, _⟩ => ⟨S16x100000, .f32⟩
  | .hbm, ⟨19, _⟩ => ⟨S16x20, .f32⟩
  | .hbm, ⟨20, _⟩ => ⟨S64x88, .f32⟩
  | .hbm, ⟨21, _⟩ => ⟨S32x64, .f32⟩
  | .hbm, ⟨22, _⟩ => ⟨S16x32, .f32⟩
  | .hbm, ⟨23, _⟩ => ⟨S1x116, .f32⟩
  | .hbm, ⟨24, _⟩ => ⟨S2x1x8192, .f32⟩
  | .hbm, ⟨25, _⟩ => ⟨S16384x1, .f32⟩
  | .local _ .vmem, ⟨0, _⟩ => ⟨S100x8192, .f32⟩
  | .local _ .vmem, ⟨1, _⟩ => ⟨S100x8192, .f32⟩
  | .local _ .vmem, ⟨2, _⟩ => ⟨S13x8192, .i32⟩
  | .local _ .vmem, ⟨3, _⟩ => ⟨S13x8192, .i32⟩
  | .local _ .vmem, ⟨4, _⟩ => ⟨S16x128, .f32⟩
  | .local _ .vmem, ⟨5, _⟩ => ⟨S16x128, .f32⟩
  | .local _ .vmem, ⟨6, _⟩ => ⟨S16x20, .f32⟩
  | .local _ .vmem, ⟨7, _⟩ => ⟨S13x16, .f32⟩
  | .local _ .vmem, ⟨8, _⟩ => ⟨S10x16, .f32⟩
  | .local _ .vmem, ⟨9, _⟩ => ⟨S64x88, .f32⟩
  | .local _ .vmem, ⟨10, _⟩ => ⟨S64, .f32⟩
  | .local _ .vmem, ⟨11, _⟩ => ⟨S32x64, .f32⟩
  | .local _ .vmem, ⟨12, _⟩ => ⟨S32, .f32⟩
  | .local _ .vmem, ⟨13, _⟩ => ⟨S16x32, .f32⟩
  | .local _ .vmem, ⟨14, _⟩ => ⟨S16, .f32⟩
  | .local _ .vmem, ⟨15, _⟩ => ⟨S1x116, .f32⟩
  | .local _ .vmem, ⟨16, _⟩ => ⟨S1, .f32⟩
  | .local _ .vmem, ⟨17, _⟩ => ⟨S1x1x8192, .f32⟩
  | .local _ .vmem, ⟨18, _⟩ => ⟨S1x1x8192, .f32⟩
  | _, _ => ⟨S16384x100, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg10_0 : Ref sig .tc := ⟨.vmem, 12, rfl⟩
abbrev cc0_stg11_0 : Ref sig .tc := ⟨.vmem, 13, rfl⟩
abbrev cc0_stg12_0 : Ref sig .tc := ⟨.vmem, 14, rfl⟩
abbrev cc0_stg13_0 : Ref sig .tc := ⟨.vmem, 15, rfl⟩
abbrev cc0_stg14_0 : Ref sig .tc := ⟨.vmem, 16, rfl⟩
abbrev cc0_stg15_0 : Ref sig .tc := ⟨.vmem, 17, rfl⟩
abbrev cc0_stg15_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem10_0 : DmaSem sig := 12
abbrev cc0_sem11_0 : DmaSem sig := 13
abbrev cc0_sem12_0 : DmaSem sig := 14
abbrev cc0_sem13_0 : DmaSem sig := 15
abbrev cc0_sem14_0 : DmaSem sig := 16
abbrev cc0_sem15_0 : DmaSem sig := 17
abbrev cc0_sem15_1 : DmaSem sig := 18

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_15 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S100x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S13x8192 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S16x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S16x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x20 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S13x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S10x16 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S64x88 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S32x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S32 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S16x32 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S1x116 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S1x1x8192 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]
-- ==== ReferenceIdeal.lean ====
abbrev S16384x100 : Shape := ⟨2, ![16384, 100]⟩
abbrev S16384x13 : Shape := ⟨2, ![16384, 13]⟩
abbrev S1000000x16 : Shape := ⟨2, ![1000000, 16]⟩
abbrev S100000x16 : Shape := ⟨2, ![100000, 16]⟩
abbrev S20x16 : Shape := ⟨2, ![20, 16]⟩
abbrev S13x16 : Shape := ⟨2, ![13, 16]⟩
abbrev S10x16 : Shape := ⟨2, ![10, 16]⟩
abbrev S88x64 : Shape := ⟨2, ![88, 64]⟩
abbrev S64 : Shape := ⟨1, ![64]⟩
abbrev S64x32 : Shape := ⟨2, ![64, 32]⟩
abbrev S32 : Shape := ⟨1, ![32]⟩
abbrev S32x16 : Shape := ⟨2, ![32, 16]⟩
abbrev S16 : Shape := ⟨1, ![16]⟩
abbrev S116x1 : Shape := ⟨2, ![116, 1]⟩
abbrev S1 : Shape := ⟨1, ![1]⟩
abbrev S16384x1 : Shape := ⟨2, ![16384, 1]⟩
abbrev S16384 : Shape := ⟨1, ![16384]⟩
abbrev S_ : Shape := ⟨0, ![]⟩
abbrev S1x1 : Shape := ⟨2, ![1, 1]⟩
abbrev S16384x16 : Shape := ⟨2, ![16384, 16]⟩
abbrev S16384x8 : Shape := ⟨2, ![16384, 8]⟩
abbrev S16384x88 : Shape := ⟨2, ![16384, 88]⟩
abbrev S16384x64 : Shape := ⟨2, ![16384, 64]⟩
abbrev S1x64 : Shape := ⟨2, ![1, 64]⟩
abbrev S16384x32 : Shape := ⟨2, ![16384, 32]⟩
abbrev S1x32 : Shape := ⟨2, ![1, 32]⟩
abbrev S1x16 : Shape := ⟨2, ![1, 16]⟩
abbrev S16384x116 : Shape := ⟨2, ![16384, 116]⟩

abbrev nBuf : Space → Nat
  | .hbm => 177
  | .vmem => 0
  | .smem => 0
  | _ => 0

abbrev hbmTy0_0 (i : Nat) : BufTy := match i % 128 with
  | 0 => ⟨S16384x100, .f32⟩
  | 1 => ⟨S16384x13, .i32⟩
  | 2 => ⟨S1000000x16, .f32⟩
  | 3 => ⟨S100000x16, .f32⟩
  | 4 => ⟨S20x16, .f32⟩
  | 5 => ⟨S13x16, .f32⟩
  | 6 => ⟨S10x16, .f32⟩
  | 7 => ⟨S88x64, .f32⟩
  | 8 => ⟨S64, .f32⟩
  | 9 => ⟨S64x32, .f32⟩
  | 10 => ⟨S32, .f32⟩
  | 11 => ⟨S32x16, .f32⟩
  | 12 => ⟨S16, .f32⟩
  | 13 => ⟨S116x1, .f32⟩
  | 14 => ⟨S1, .f32⟩
  | 15 => ⟨S16384x1, .i32⟩
  | 16 => ⟨S16384, .i32⟩
  | 17 => ⟨S_, .i32⟩
  | 18 => ⟨S16384, .i32⟩
  | 19 => ⟨S16384, .i1⟩
  | 20 => ⟨S_, .i32⟩
  | 21 => ⟨S16384, .i32⟩
  | 22 => ⟨S16384, .i32⟩
  | 23 => ⟨S16384, .i32⟩
  | 24 => ⟨S16384x1, .i32⟩
  | 25 => ⟨S1, .i32⟩
  | 26 => ⟨S_, .i32⟩
  | 27 => ⟨S16384x1, .i32⟩
  | 28 => ⟨S16384x1, .i1⟩
  | 29 => ⟨S1x1, .i32⟩
  | 30 => ⟨S16384x1, .i32⟩
  | 31 => ⟨S16384x1, .i1⟩
  | 32 => ⟨S16384x1, .i1⟩
  | 33 => ⟨S_, .i1⟩
  | 34 => ⟨S16384, .i1⟩
  | 35 => ⟨S16384x16, .f32⟩
  | 36 => ⟨S16384x16, .i1⟩
  | 37 => ⟨S_, .f32⟩
  | 38 => ⟨S16384x16, .f32⟩
  | 39 => ⟨S16384x16, .f32⟩
  | 40 => ⟨S16384x1, .i32⟩
  | 41 => ⟨S16384, .i32⟩
  | 42 => ⟨S_, .i32⟩
  | 43 => ⟨S16384, .i32⟩
  | 44 => ⟨S16384, .i1⟩
  | 45 => ⟨S_, .i32⟩
  | 46 => ⟨S16384, .i32⟩
  | 47 => ⟨S16384, .i32⟩
  | 48 => ⟨S16384, .i32⟩
  | 49 => ⟨S16384x1, .i32⟩
  | 50 => ⟨S1, .i32⟩
  | 51 => ⟨S_, .i32⟩
  | 52 => ⟨S16384x1, .i32⟩
  | 53 => ⟨S16384x1, .i1⟩
  | 54 => ⟨S1x1, .i32⟩
  | 55 => ⟨S16384x1, .i32⟩
  | 56 => ⟨S16384x1, .i1⟩
  | 57 => ⟨S16384x1, .i1⟩
  | 58 => ⟨S_, .i1⟩
  | 59 => ⟨S16384, .i1⟩
  | 60 => ⟨S16384x16, .f32⟩
  | 61 => ⟨S16384x16, .i1⟩
  | 62 => ⟨S_, .f32⟩
  | 63 => ⟨S16384x16, .f32⟩
  | 64 => ⟨S16384x16, .f32⟩
  | 65 => ⟨S16384x1, .i32⟩
  | 66 => ⟨S16384, .i32⟩
  | 67 => ⟨S_, .i32⟩
  | 68 => ⟨S16384, .i32⟩
  | 69 => ⟨S16384, .i1⟩
  | 70 => ⟨S_, .i32⟩
  | 71 => ⟨S16384, .i32⟩
  | 72 => ⟨S16384, .i32⟩
  | 73 => ⟨S16384, .i32⟩
  | 74 => ⟨S16384x1, .i32⟩
  | 75 => ⟨S1, .i32⟩
  | 76 => ⟨S_, .i32⟩
  | 77 => ⟨S16384x1, .i32⟩
  | 78 => ⟨S16384x1, .i1⟩
  | 79 => ⟨S1x1, .i32⟩
  | 80 => ⟨S16384x1, .i32⟩
  | 81 => ⟨S16384x1, .i1⟩
  | 82 => ⟨S16384x1, .i1⟩
  | 83 => ⟨S_, .i1⟩
  | 84 => ⟨S16384, .i1⟩
  | 85 => ⟨S16384x16, .f32⟩
  | 86 => ⟨S16384x16, .i1⟩
  | 87 => ⟨S_, .f32⟩
  | 88 => ⟨S16384x16, .f32⟩
  | 89 => ⟨S16384x16, .f32⟩
  | 90 => ⟨S16384x1, .i32⟩
  | 91 => ⟨S16384, .i32⟩
  | 92 => ⟨S_, .i32⟩
  | 93 => ⟨S16384, .i32⟩
  | 94 => ⟨S16384, .i1⟩
  | 95 => ⟨S_, .i32⟩
  | 96 => ⟨S16384, .i32⟩
  | 97 => ⟨S16384, .i32⟩
  | 98 => ⟨S16384, .i32⟩
  | 99 => ⟨S16384x1, .i32⟩
  | 100 => ⟨S1, .i32⟩
  | 101 => ⟨S_, .i32⟩
  | 102 => ⟨S16384x1, .i32⟩
  | 103 => ⟨S16384x1, .i1⟩
  | 104 => ⟨S1x1, .i32⟩
  | 105 => ⟨S16384x1, .i32⟩
  | 106 => ⟨S16384x1, .i1⟩
  | 107 => ⟨S16384x1, .i1⟩
  | 108 => ⟨S_, .i1⟩
  | 109 => ⟨S16384, .i1⟩
  | 110 => ⟨S16384x16, .f32⟩
  | 111 => ⟨S16384x16, .i1⟩
  | 112 => ⟨S_, .f32⟩
  | 113 => ⟨S16384x16, .f32⟩
  | 114 => ⟨S16384x16, .f32⟩
  | 115 => ⟨S16384x1, .i32⟩
  | 116 => ⟨S16384, .i32⟩
  | 117 => ⟨S_, .i32⟩
  | 118 => ⟨S16384, .i32⟩
  | 119 => ⟨S16384, .i1⟩
  | 120 => ⟨S_, .i32⟩
  | 121 => ⟨S16384, .i32⟩
  | 122 => ⟨S16384, .i32⟩
  | 123 => ⟨S16384, .i32⟩
  | 124 => ⟨S16384x1, .i32⟩
  | 125 => ⟨S1, .i32⟩
  | 126 => ⟨S_, .i32⟩
  | 127 => ⟨S16384x1, .i32⟩
  | _ => ⟨S16384x100, .f32⟩

abbrev hbmTy0_1 (i : Nat) : BufTy := match i % 128 with
  | 0 => ⟨S16384x1, .i1⟩
  | 1 => ⟨S1x1, .i32⟩
  | 2 => ⟨S16384x1, .i32⟩
  | 3 => ⟨S16384x1, .i1⟩
  | 4 => ⟨S16384x1, .i1⟩
  | 5 => ⟨S_, .i1⟩
  | 6 => ⟨S16384, .i1⟩
  | 7 => ⟨S16384x16, .f32⟩
  | 8 => ⟨S16384x16, .i1⟩
  | 9 => ⟨S_, .f32⟩
  | 10 => ⟨S16384x16, .f32⟩
  | 11 => ⟨S16384x16, .f32⟩
  | 12 => ⟨S16384x8, .i32⟩
  | 13 => ⟨S16384x8, .f32⟩
  | 14 => ⟨S16384x88, .f32⟩
  | 15 => ⟨S16384x64, .f32⟩
  | 16 => ⟨S1x64, .f32⟩
  | 17 => ⟨S16384x64, .f32⟩
  | 18 => ⟨S16384x64, .f32⟩
  | 19 => ⟨S_, .f32⟩
  | 20 => ⟨S16384x64, .f32⟩
  | 21 => ⟨S16384x64, .f32⟩
  | 22 => ⟨S16384x32, .f32⟩
  | 23 => ⟨S1x32, .f32⟩
  | 24 => ⟨S16384x32, .f32⟩
  | 25 => ⟨S16384x32, .f32⟩
  | 26 => ⟨S_, .f32⟩
  | 27 => ⟨S16384x32, .f32⟩
  | 28 => ⟨S16384x32, .f32⟩
  | 29 => ⟨S16384x16, .f32⟩
  | 30 => ⟨S1x16, .f32⟩
  | 31 => ⟨S16384x16, .f32⟩
  | 32 => ⟨S16384x16, .f32⟩
  | 33 => ⟨S_, .f32⟩
  | 34 => ⟨S16384x16, .f32⟩
  | 35 => ⟨S16384x16, .f32⟩
  | 36 => ⟨S16384x116, .f32⟩
  | 37 => ⟨S16384x1, .f32⟩
  | 38 => ⟨S1x1, .f32⟩
  | 39 => ⟨S16384x1, .f32⟩
  | 40 => ⟨S16384x1, .f32⟩
  | 41 => ⟨S16384x1, .f32⟩
  | 42 => ⟨S16384x1, .f32⟩
  | 43 => ⟨S_, .f32⟩
  | 44 => ⟨S16384x1, .f32⟩
  | 45 => ⟨S16384x1, .f32⟩
  | 46 => ⟨S_, .f32⟩
  | 47 => ⟨S16384x1, .f32⟩
  | 48 => ⟨S16384x1, .f32⟩
  | _ => ⟨S16384x100, .f32⟩

abbrev hbmTy (i : Nat) : BufTy := match i / 128 with
  | 0 => hbmTy0_0 i
  | 1 => hbmTy0_1 i
  | _ => ⟨S16384x100, .f32⟩

abbrev bufTy : (tb : Table) → Fin (tcTables nBuf tb) → BufTy
  | .hbm, ⟨i, _⟩ => hbmTy i
  | _, _ => ⟨S16384x100, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_call0_c : Ref sig .tc := ⟨.hbm, 17, rfl⟩
abbrev main_call0_v0 : Ref sig .tc := ⟨.hbm, 18, rfl⟩
abbrev main_call0_v1 : Ref sig .tc := ⟨.hbm, 19, rfl⟩
abbrev main_call0_c_0 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_call0_v5 : Ref sig .tc := ⟨.hbm, 24, rfl⟩
abbrev main_call0_c_1 : Ref sig .tc := ⟨.hbm, 25, rfl⟩
abbrev main_call0_c_2 : Ref sig .tc := ⟨.hbm, 26, rfl⟩
abbrev main_call0_v6 : Ref sig .tc := ⟨.hbm, 27, rfl⟩
abbrev main_call0_v7 : Ref sig .tc := ⟨.hbm, 28, rfl⟩
abbrev main_call0_v8 : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_3 : Ref sig .tc := ⟨.hbm, 33, rfl⟩
abbrev main_call0_v12 : Ref sig .tc := ⟨.hbm, 34, rfl⟩
abbrev main_call0_v13 : Ref sig .tc := ⟨.hbm, 35, rfl⟩
abbrev main_call0_v14 : Ref sig .tc := ⟨.hbm, 36, rfl⟩
abbrev main_call0_cst : Ref sig .tc := ⟨.hbm, 37, rfl⟩
abbrev main_call0_v15 : Ref sig .tc := ⟨.hbm, 38, rfl⟩
abbrev main_v2 : Ref sig .tc := ⟨.hbm, 39, rfl⟩
abbrev main_v3 : Ref sig .tc := ⟨.hbm, 40, rfl⟩
abbrev main_v4 : Ref sig .tc := ⟨.hbm, 41, rfl⟩
abbrev main_call1_c : Ref sig .tc := ⟨.hbm, 42, rfl⟩
abbrev main_call1_v0 : Ref sig .tc := ⟨.hbm, 43, rfl⟩
abbrev main_call1_v1 : Ref sig .tc := ⟨.hbm, 44, rfl⟩
abbrev main_call1_c_0 : Ref sig .tc := ⟨.hbm, 45, rfl⟩
abbrev main_call1_v2 : Ref sig .tc := ⟨.hbm, 46, rfl⟩
abbrev main_call1_v3 : Ref sig .tc := ⟨.hbm, 47, rfl⟩
abbrev main_call1_v4 : Ref sig .tc := ⟨.hbm, 48, rfl⟩
abbrev main_call1_v5 : Ref sig .tc := ⟨.hbm, 49, rfl⟩
abbrev main_call1_c_1 : Ref sig .tc := ⟨.hbm, 50, rfl⟩
abbrev main_call1_c_2 : Ref sig .tc := ⟨.hbm, 51, rfl⟩
abbrev main_call1_v6 : Ref sig .tc := ⟨.hbm, 52, rfl⟩
abbrev main_call1_v7 : Ref sig .tc := ⟨.hbm, 53, rfl⟩
abbrev main_call1_v8 : Ref sig .tc := ⟨.hbm, 54, rfl⟩
abbrev main_call1_v9 : Ref sig .tc := ⟨.hbm, 55, rfl⟩
abbrev main_call1_v10 : Ref sig .tc := ⟨.hbm, 56, rfl⟩
abbrev main_call1_v11 : Ref sig .tc := ⟨.hbm, 57, rfl⟩
abbrev main_call1_c_3 : Ref sig .tc := ⟨.hbm, 58, rfl⟩
abbrev main_call1_v12 : Ref sig .tc := ⟨.hbm, 59, rfl⟩
abbrev main_call1_v13 : Ref sig .tc := ⟨.hbm, 60, rfl⟩
abbrev main_call1_v14 : Ref sig .tc := ⟨.hbm, 61, rfl⟩
abbrev main_call1_cst : Ref sig .tc := ⟨.hbm, 62, rfl⟩
abbrev main_call1_v15 : Ref sig .tc := ⟨.hbm, 63, rfl⟩
abbrev main_v5 : Ref sig .tc := ⟨.hbm, 64, rfl⟩
abbrev main_v6 : Ref sig .tc := ⟨.hbm, 65, rfl⟩
abbrev main_v7 : Ref sig .tc := ⟨.hbm, 66, rfl⟩
abbrev main_call2_c : Ref sig .tc := ⟨.hbm, 67, rfl⟩
abbrev main_call2_v0 : Ref sig .tc := ⟨.hbm, 68, rfl⟩
abbrev main_call2_v1 : Ref sig .tc := ⟨.hbm, 69, rfl⟩
abbrev main_call2_c_0 : Ref sig .tc := ⟨.hbm, 70, rfl⟩
abbrev main_call2_v2 : Ref sig .tc := ⟨.hbm, 71, rfl⟩
abbrev main_call2_v3 : Ref sig .tc := ⟨.hbm, 72, rfl⟩
abbrev main_call2_v4 : Ref sig .tc := ⟨.hbm, 73, rfl⟩
abbrev main_call2_v5 : Ref sig .tc := ⟨.hbm, 74, rfl⟩
abbrev main_call2_c_1 : Ref sig .tc := ⟨.hbm, 75, rfl⟩
abbrev main_call2_c_2 : Ref sig .tc := ⟨.hbm, 76, rfl⟩
abbrev main_call2_v6 : Ref sig .tc := ⟨.hbm, 77, rfl⟩
abbrev main_call2_v7 : Ref sig .tc := ⟨.hbm, 78, rfl⟩
abbrev main_call2_v8 : Ref sig .tc := ⟨.hbm, 79, rfl⟩
abbrev main_call2_v9 : Ref sig .tc := ⟨.hbm, 80, rfl⟩
abbrev main_call2_v10 : Ref sig .tc := ⟨.hbm, 81, rfl⟩
abbrev main_call2_v11 : Ref sig .tc := ⟨.hbm, 82, rfl⟩
abbrev main_call2_c_3 : Ref sig .tc := ⟨.hbm, 83, rfl⟩
abbrev main_call2_v12 : Ref sig .tc := ⟨.hbm, 84, rfl⟩
abbrev main_call2_v13 : Ref sig .tc := ⟨.hbm, 85, rfl⟩
abbrev main_call2_v14 : Ref sig .tc := ⟨.hbm, 86, rfl⟩
abbrev main_call2_cst : Ref sig .tc := ⟨.hbm, 87, rfl⟩
abbrev main_call2_v15 : Ref sig .tc := ⟨.hbm, 88, rfl⟩
abbrev main_v8 : Ref sig .tc := ⟨.hbm, 89, rfl⟩
abbrev main_v9 : Ref sig .tc := ⟨.hbm, 90, rfl⟩
abbrev main_v10 : Ref sig .tc := ⟨.hbm, 91, rfl⟩
abbrev main_call3_c : Ref sig .tc := ⟨.hbm, 92, rfl⟩
abbrev main_call3_v0 : Ref sig .tc := ⟨.hbm, 93, rfl⟩
abbrev main_call3_v1 : Ref sig .tc := ⟨.hbm, 94, rfl⟩
abbrev main_call3_c_0 : Ref sig .tc := ⟨.hbm, 95, rfl⟩
abbrev main_call3_v2 : Ref sig .tc := ⟨.hbm, 96, rfl⟩
abbrev main_call3_v3 : Ref sig .tc := ⟨.hbm, 97, rfl⟩
abbrev main_call3_v4 : Ref sig .tc := ⟨.hbm, 98, rfl⟩
abbrev main_call3_v5 : Ref sig .tc := ⟨.hbm, 99, rfl⟩
abbrev main_call3_c_1 : Ref sig .tc := ⟨.hbm, 100, rfl⟩
abbrev main_call3_c_2 : Ref sig .tc := ⟨.hbm, 101, rfl⟩
abbrev main_call3_v6 : Ref sig .tc := ⟨.hbm, 102, rfl⟩
abbrev main_call3_v7 : Ref sig .tc := ⟨.hbm, 103, rfl⟩
abbrev main_call3_v8 : Ref sig .tc := ⟨.hbm, 104, rfl⟩
abbrev main_call3_v9 : Ref sig .tc := ⟨.hbm, 105, rfl⟩
abbrev main_call3_v10 : Ref sig .tc := ⟨.hbm, 106, rfl⟩
abbrev main_call3_v11 : Ref sig .tc := ⟨.hbm, 107, rfl⟩
abbrev main_call3_c_3 : Ref sig .tc := ⟨.hbm, 108, rfl⟩
abbrev main_call3_v12 : Ref sig .tc := ⟨.hbm, 109, rfl⟩
abbrev main_call3_v13 : Ref sig .tc := ⟨.hbm, 110, rfl⟩
abbrev main_call3_v14 : Ref sig .tc := ⟨.hbm, 111, rfl⟩
abbrev main_call3_cst : Ref sig .tc := ⟨.hbm, 112, rfl⟩
abbrev main_call3_v15 : Ref sig .tc := ⟨.hbm, 113, rfl⟩
abbrev main_v11 : Ref sig .tc := ⟨.hbm, 114, rfl⟩
abbrev main_v12 : Ref sig .tc := ⟨.hbm, 115, rfl⟩
abbrev main_v13 : Ref sig .tc := ⟨.hbm, 116, rfl⟩
abbrev main_call4_c : Ref sig .tc := ⟨.hbm, 117, rfl⟩
abbrev main_call4_v0 : Ref sig .tc := ⟨.hbm, 118, rfl⟩
abbrev main_call4_v1 : Ref sig .tc := ⟨.hbm, 119, rfl⟩
abbrev main_call4_c_0 : Ref sig .tc := ⟨.hbm, 120, rfl⟩
abbrev main_call4_v2 : Ref sig .tc := ⟨.hbm, 121, rfl⟩
abbrev main_call4_v3 : Ref sig .tc := ⟨.hbm, 122, rfl⟩
abbrev main_call4_v4 : Ref sig .tc := ⟨.hbm, 123, rfl⟩
abbrev main_call4_v5 : Ref sig .tc := ⟨.hbm, 124, rfl⟩
abbrev main_call4_c_1 : Ref sig .tc := ⟨.hbm, 125, rfl⟩
abbrev main_call4_c_2 : Ref sig .tc := ⟨.hbm, 126, rfl⟩
abbrev main_call4_v6 : Ref sig .tc := ⟨.hbm, 127, rfl⟩
abbrev main_call4_v7 : Ref sig .tc := ⟨.hbm, 128, rfl⟩
abbrev main_call4_v8 : Ref sig .tc := ⟨.hbm, 129, rfl⟩
abbrev main_call4_v9 : Ref sig .tc := ⟨.hbm, 130, rfl⟩
abbrev main_call4_v10 : Ref sig .tc := ⟨.hbm, 131, rfl⟩
abbrev main_call4_v11 : Ref sig .tc := ⟨.hbm, 132, rfl⟩
abbrev main_call4_c_3 : Ref sig .tc := ⟨.hbm, 133, rfl⟩
abbrev main_call4_v12 : Ref sig .tc := ⟨.hbm, 134, rfl⟩
abbrev main_call4_v13 : Ref sig .tc := ⟨.hbm, 135, rfl⟩
abbrev main_call4_v14 : Ref sig .tc := ⟨.hbm, 136, rfl⟩
abbrev main_call4_cst : Ref sig .tc := ⟨.hbm, 137, rfl⟩
abbrev main_call4_v15 : Ref sig .tc := ⟨.hbm, 138, rfl⟩
abbrev main_v14 : Ref sig .tc := ⟨.hbm, 139, rfl⟩
abbrev main_v15 : Ref sig .tc := ⟨.hbm, 140, rfl⟩
abbrev main_v16 : Ref sig .tc := ⟨.hbm, 141, rfl⟩
abbrev main_v17 : Ref sig .tc := ⟨.hbm, 142, rfl⟩
abbrev main_v18 : Ref sig .tc := ⟨.hbm, 143, rfl⟩
abbrev main_v19 : Ref sig .tc := ⟨.hbm, 144, rfl⟩
abbrev main_v20 : Ref sig .tc := ⟨.hbm, 145, rfl⟩
abbrev main_v21 : Ref sig .tc := ⟨.hbm, 146, rfl⟩
abbrev main_call5_cst : Ref sig .tc := ⟨.hbm, 147, rfl⟩
abbrev main_call5_v0 : Ref sig .tc := ⟨.hbm, 148, rfl⟩
abbrev main_v22 : Ref sig .tc := ⟨.hbm, 149, rfl⟩
abbrev main_v23 : Ref sig .tc := ⟨.hbm, 150, rfl⟩
abbrev main_v24 : Ref sig .tc := ⟨.hbm, 151, rfl⟩
abbrev main_v25 : Ref sig .tc := ⟨.hbm, 152, rfl⟩
abbrev main_v26 : Ref sig .tc := ⟨.hbm, 153, rfl⟩
abbrev main_call6_cst : Ref sig .tc := ⟨.hbm, 154, rfl⟩
abbrev main_call6_v0 : Ref sig .tc := ⟨.hbm, 155, rfl⟩
abbrev main_v27 : Ref sig .tc := ⟨.hbm, 156, rfl⟩
abbrev main_v28 : Ref sig .tc := ⟨.hbm, 157, rfl⟩
abbrev main_v29 : Ref sig .tc := ⟨.hbm, 158, rfl⟩
abbrev main_v30 : Ref sig .tc := ⟨.hbm, 159, rfl⟩
abbrev main_v31 : Ref sig .tc := ⟨.hbm, 160, rfl⟩
abbrev main_call7_cst : Ref sig .tc := ⟨.hbm, 161, rfl⟩
abbrev main_call7_v0 : Ref sig .tc := ⟨.hbm, 162, rfl⟩
abbrev main_v32 : Ref sig .tc := ⟨.hbm, 163, rfl⟩
abbrev main_v33 : Ref sig .tc := ⟨.hbm, 164, rfl⟩
abbrev main_v34 : Ref sig .tc := ⟨.hbm, 165, rfl⟩
abbrev main_v35 : Ref sig .tc := ⟨.hbm, 166, rfl⟩
abbrev main_v36 : Ref sig .tc := ⟨.hbm, 167, rfl⟩
abbrev main_v37 : Ref sig .tc := ⟨.hbm, 168, rfl⟩
abbrev main_v38 : Ref sig .tc := ⟨.hbm, 169, rfl⟩
abbrev main_v39 : Ref sig .tc := ⟨.hbm, 170, rfl⟩
abbrev main_cst : Ref sig .tc := ⟨.hbm, 171, rfl⟩
abbrev main_v40 : Ref sig .tc := ⟨.hbm, 172, rfl⟩
abbrev main_v41 : Ref sig .tc := ⟨.hbm, 173, rfl⟩
abbrev main_cst_0 : Ref sig .tc := ⟨.hbm, 174, rfl⟩
abbrev main_v42 : Ref sig .tc := ⟨.hbm, 175, rfl⟩
abbrev main_v43 : Ref sig .tc := ⟨.hbm, 176, rfl⟩

abbrev nD : Nat := 1
abbrev τ : Topo := Topo.v7x

variable {F : FTy → Type} [FloatOps F]
-- ==== Proof.Score.lean ====
/- The score of one sample, as a formula over the extended reals: what both programs compute in each row. Then the one
   identity that the kernel's form of the first layer needs: a sum against a one-hot column picks one entry. -/
module

public import Idealize.ShloMosaic.Lib.Pointwise

@[expose] public section

noncomputable section

namespace Cert.WideDeep

open Idealize.ShloMosaic

/-- One dense layer with a relu: entry `n` is `max (∑ k, x k · w k n + b n) 0`. -/
def layer {K N : ℕ} (x : Fin K → EReal) (w : Fin K → Fin N → EReal) (b : Fin N → EReal) (n : Fin N) : EReal :=
  max (∑ k, x k * w k n + b n) 0

/-- The first layer before its relu, its 88 features in their six parts: five embeddings `e 0 … e 4` of 16 entries, then
    the 8 continuous features `z`. -/
def mix (e : Fin 5 → Fin 16 → EReal) (z : Fin 8 → EReal) (w : Fin 88 → Fin 64 → EReal) (b : Fin 64 → EReal) (n : Fin 64) : EReal :=
  (∑ k : Fin 16, e 0 k * w ⟨k, by omega⟩ n) + (∑ k : Fin 16, e 1 k * w ⟨16 + k, by omega⟩ n)
    + (∑ k : Fin 16, e 2 k * w ⟨32 + k, by omega⟩ n) + (∑ k : Fin 16, e 3 k * w ⟨48 + k, by omega⟩ n)
    + (∑ k : Fin 16, e 4 k * w ⟨64 + k, by omega⟩ n) + (∑ k : Fin 8, z k * w ⟨80 + k, by omega⟩ n) + b n

/-- The score: the logistic function of the wide features' linear part plus the deep output's linear part plus the bias,
    where the deep output is three dense layers over the embeddings and the continuous features. -/
def score (x : Fin 100 → EReal) (e : Fin 5 → Fin 16 → EReal) (z : Fin 8 → EReal)
    (w1 : Fin 88 → Fin 64 → EReal) (b1 : Fin 64 → EReal) (w2 : Fin 64 → Fin 32 → EReal) (b2 : Fin 32 → EReal)
    (w3 : Fin 32 → Fin 16 → EReal) (b3 : Fin 16 → EReal) (w : Fin 116 → EReal) (b : EReal) : EReal :=
  Ideal.logistic ((∑ k : Fin 100, x k * w ⟨k, by omega⟩)
    + (∑ k : Fin 16, layer (layer (fun n => max (mix e z w1 b1 n) 0) w2 b2) w3 b3 k * w ⟨100 + k, by omega⟩) + b)

/-- The indicator of `a = b`, as the kernel builds it (compare, widen, convert): 1 where the words are equal. -/
theorem indicator_self (a : BitVec 32) :
    (FloatOps.sitofp .f32 (BitVec.setWidth 32 (IntOp.cmpi .eq a a)) : Ideal .f32) = (1 : EReal) := by
  rw [IntOp.cmpi_eq_self]
  show (((BitVec.setWidth 32 1#1).toInt : ℝ) : EReal) = 1
  rw [show (BitVec.setWidth 32 1#1).toInt = 1 by decide]
  norm_num

/-- The same indicator is 0 where the words differ. -/
theorem indicator_ne {a b : BitVec 32} (h : a ≠ b) :
    (FloatOps.sitofp .f32 (BitVec.setWidth 32 (IntOp.cmpi .eq a b)) : Ideal .f32) = (0 : EReal) := by
  have hb : IntOp.cmpi .eq a b = 0#1 := by
    show BitVec.ofBool (a == b) = 0#1
    rw [beq_eq_false_iff_ne.2 h]
    rfl
  rw [hb]
  show (((BitVec.setWidth 32 0#1).toInt : ℝ) : EReal) = 0
  rw [show (BitVec.setWidth 32 0#1).toInt = 0 by decide]
  norm_num

/-- THE ONE-HOT SUM: `f` summed against the one-hot column of the word `v` is `f` at `v`, where `v` is one of the column's
    `w` positions. -/
theorem sum_onehot {w : ℕ} (hw : w ≤ 16) (f : Fin w → EReal) (v : BitVec 32) (hv : v.toNat < w) :
    (∑ j : Fin w, f j * (FloatOps.sitofp .f32 (BitVec.setWidth 32 (IntOp.cmpi .eq v (BitVec.ofNat 32 j.val))) : Ideal .f32))
      = f ⟨v.toNat, hv⟩ := by
  rw [Finset.sum_eq_single (⟨v.toNat, hv⟩ : Fin w)]
  · rw [show BitVec.ofNat 32 v.toNat = v by simp, indicator_self]
    exact mul_one _
  · intro j _ hj
    rw [indicator_ne]
    · exact mul_zero _
    · intro e
      refine hj (Fin.ext ?_)
      have := congrArg BitVec.toNat e
      rw [BitVec.toNat_ofNat, Nat.mod_eq_of_lt (by have := j.isLt; omega)] at this
      exact this.symm
  · exact fun h => absurd (Finset.mem_univ _) h

end Cert.WideDeep

end
-- ==== Proof.Block.lean ====
/- What one grid point computes: the block the kernel stores, read at a sample, is the score of that sample. -/
module

public import proofs.«01_k».proof.Proof.Gen.KernelIdeal.Frame
public import proofs.«01_k».proof.Proof.Score

@[expose] public section

set_option maxRecDepth 16384

noncomputable section

namespace Cert.WideDeep

open Idealize.ShloMosaic Idealize.SL.Sem Cert.KernelIdeal Cert.KernelIdeal.Gen

/-- The stored block as one term over the input blocks: the kernel's named steps composed, each table read through its
    16 × 16 corner. -/
def stored (x0 : Vec Ideal S100x8192 .f32) (x1 : Vec Ideal S13x8192 .i32) (x2 x3 : Vec Ideal S16x128 .f32) (x4 : Vec Ideal S16x20 .f32)
    (x5 : Vec Ideal S13x16 .f32) (x6 : Vec Ideal S10x16 .f32) (x7 : Vec Ideal S64x88 .f32) (x8 : Vec Ideal S64 .f32) (x9 : Vec Ideal S32x64 .f32)
    (x10 : Vec Ideal S32 .f32) (x11 : Vec Ideal S16x32 .f32) (x12 : Vec Ideal S16 .f32) (x13 : Vec Ideal S1x116 .f32) (x14 : Vec Ideal S1 .f32) :
    FVec Ideal S1x1x8192 .f32 :=
  k0_pay1 (k0_pay10 (k0_pay3 x1) (k0_pay4 x1) (k0_pay5 x7)
    (k0_pay6 (View.ld x2 (Rect.unit ![0, 0] S16x16.size inb_S16x128_S16x16_0_0)))
    (k0_pay7 (View.ld x3 (Rect.unit ![0, 0] S16x16.size inb_S16x128_S16x16_0_0)))
    (k0_pay8 (View.ld x4 (Rect.unit ![0, 0] S16x16.size inb_S16x20_S16x16_0_0)))
    (k0_pay9 x7) x5 x6 x8 x9 x10 x11 x12) x13 x0 x14

/-- The offset of a whole load of a vector is zero. -/
theorem off1 : (![0] : Fin 1 → ℕ) = fun _ => 0 := by decide
/-- The offsets of a whole load of a matrix are zero. -/
theorem off2 : (![0, 0] : Fin 2 → ℕ) = fun _ => 0 := by decide
/-- The offsets of the whole store of the output's block are zero. -/
theorem off3 : (![0, 0, 0] : Fin 3 → ℕ) = fun _ => 0 := by decide

section Opened
variable (m : (ℓ : Loc nD τ sig) → Buf (Elt Ideal) ℓ)

/-- The contents the frame names for the output's buffer after a grid point are that term at the point's blocks. -/
theorem outsAt_eq_stored (c : Dev nD) (t : Fin cfg0.N) :
    outsAt0 m c t = stored (iblk m c 0 t) (iblk m c 1 t) (X0_2 m c t) (X0_3 m c t) (iblk m c 4 t) (iblk m c 5 t) (iblk m c 6 t)
      (iblk m c 7 t) (iblk m c 8 t) (iblk m c 9 t) (iblk m c 10 t) (iblk m c 11 t) (iblk m c 12 t) (iblk m c 13 t) (iblk m c 14 t) := by
  unfold outsAt0 out0_A_15
  rw [View.read_writes_eq_canon _ _ _ (cover0_A_15 c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (ms0_9 t) (hs0_9 t) (ms0_10 t) (hs0_10 t) (ms0_11 t) (hs0_11 t) (ms0_12 t) (hs0_12 t) (ms0_13 t) (hs0_13 t) (ms0_14 t) (hs0_14 t) (ms0_15 t) (hs0_15 t) (iblk m c 0 t) (iblk m c 1 t) (X0_2 m c t) (X0_3 m c t) (iblk m c 4 t) (iblk m c 5 t) (iblk m c 6 t) (iblk m c 7 t) (iblk m c 8 t) (iblk m c 9 t) (iblk m c 10 t) (iblk m c 11 t) (iblk m c 12 t) (iblk m c 13 t) (iblk m c 14 t))]
  unfold kernelRun0_A
  dsimp only
  sl_unfold_words
  simp only [View.readAt_eq_ld, (hs0_0 t).read_unread, (hs0_1 t).read_unread, (hs0_2 t).read_unread, (hs0_3 t).read_unread,
    (hs0_4 t).read_unread, (hs0_5 t).read_unread, (hs0_6 t).read_unread, (hs0_7 t).read_unread, (hs0_8 t).read_unread,
    (hs0_9 t).read_unread, (hs0_10 t).read_unread, (hs0_11 t).read_unread, (hs0_12 t).read_unread, (hs0_13 t).read_unread,
    (hs0_14 t).read_unread]
  rw [View.canon_unit_zero off3]
  simp only [View.ld_unit_zero (S := S13x8192) off2, View.ld_unit_zero (S := S64x88) off2, View.ld_unit_zero (S := S13x16) off2,
    View.ld_unit_zero (S := S10x16) off2, View.ld_unit_zero (S := S64) off1, View.ld_unit_zero (S := S32x64) off2,
    View.ld_unit_zero (S := S32) off1, View.ld_unit_zero (S := S16x32) off2, View.ld_unit_zero (S := S16) off1,
    View.ld_unit_zero (S := S1x116) off2, View.ld_unit_zero (S := S100x8192) off2, View.ld_unit_zero (S := S1) off1]
  rfl
end Opened

/-- A sum over the 71 stacked positions is the sum of the five tables' own sums. -/
theorem sum_stacked (F : Fin 71 → EReal) :
    ∑ x : Fin 71, F x = (∑ i : Fin 16, F ⟨i.val, by omega⟩) + ((∑ i : Fin 16, F ⟨16 + i.val, by omega⟩)
      + ((∑ i : Fin 16, F ⟨16 + (16 + i.val), by omega⟩) + ((∑ i : Fin 13, F ⟨16 + (16 + (16 + i.val)), by omega⟩)
      + ∑ i : Fin 10, F ⟨16 + (16 + (16 + (13 + i.val))), by omega⟩))) := by
  rw [show (∑ x : Fin 71, F x) = ∑ x : Fin (16 + (16 + (16 + (13 + 10)))), F ⟨x.val, x.isLt⟩ from rfl]
  rw [Fin.sum_univ_add, Fin.sum_univ_add, Fin.sum_univ_add, Fin.sum_univ_add]
  rfl

/-- THE BLOCK AT A SAMPLE: column `l` of the stored block is the score of that column, where `e t` is the row of table `t`
    that the sample's categorical word `t` (below 10) names. -/
theorem stored_apply (x0 : Vec Ideal S100x8192 .f32) (x1 : Vec Ideal S13x8192 .i32) (x2 x3 : Vec Ideal S16x128 .f32) (x4 : Vec Ideal S16x20 .f32)
    (x5 : Vec Ideal S13x16 .f32) (x6 : Vec Ideal S10x16 .f32) (x7 : Vec Ideal S64x88 .f32) (x8 : Vec Ideal S64 .f32) (x9 : Vec Ideal S32x64 .f32)
    (x10 : Vec Ideal S32 .f32) (x11 : Vec Ideal S16x32 .f32) (x12 : Vec Ideal S16 .f32) (x13 : Vec Ideal S1x116 .f32) (x14 : Vec Ideal S1 .f32)
    (l : Fin 8192) (e : Fin 5 → Fin 16 → EReal)
    (h0 : (x1 (ix2 0 l)).toNat < 10) (h1 : (x1 (ix2 1 l)).toNat < 10) (h2 : (x1 (ix2 2 l)).toNat < 10)
    (h3 : (x1 (ix2 3 l)).toNat < 10) (h4 : (x1 (ix2 4 l)).toNat < 10)
    (e0 : ∀ d, x2 (ix2 d ⟨(x1 (ix2 0 l)).toNat, by omega⟩) = e 0 d)
    (e1 : ∀ d, x3 (ix2 d ⟨(x1 (ix2 1 l)).toNat, by omega⟩) = e 1 d)
    (e2 : ∀ d, x4 (ix2 d ⟨(x1 (ix2 2 l)).toNat, by omega⟩) = e 2 d)
    (e3 : ∀ d, x5 (ix2 ⟨(x1 (ix2 3 l)).toNat, by omega⟩ d) = e 3 d)
    (e4 : ∀ d, x6 (ix2 ⟨(x1 (ix2 4 l)).toNat, by omega⟩ d) = e 4 d) :
    stored x0 x1 x2 x3 x4 x5 x6 x7 x8 x9 x10 x11 x12 x13 x14 (ix3 0 0 l)
      = score (fun k => x0 (ix2 k l)) e (fun k => (FloatOps.sitofp .f32 (x1 (ix2 ⟨5 + k.val, by omega⟩ l)) : Ideal .f32))
          (fun k n => x7 (ix2 n k)) (fun n => x8 (ix1 n)) (fun k n => x9 (ix2 n k)) (fun n => x10 (ix1 n))
          (fun k n => x11 (ix2 n k)) (fun n => x12 (ix1 n)) (fun k => x13 (ix2 0 k)) (x14 (ix1 0)) := by
  pointwise [stored, k0_pay1, k0_pay10, k0_pay3, k0_pay4, k0_pay2, k0_pay5, k0_pay6, k0_pay7, k0_pay8, k0_pay9]
  have d1 : ∀ i : ℕ, ¬ (16 + i < 16) := fun i => by omega
  have d3 : ∀ i : ℕ, ¬ (13 + i < 13) := fun i => by omega
  simp only [sum_stacked, Fin.is_lt, dite_true, d1, d3, dite_false, Nat.add_sub_cancel_left]
  simp only [sum_onehot (w := 16) (by omega) _ _ (lt_trans h0 (by omega)), sum_onehot (w := 16) (by omega) _ _ (lt_trans h1 (by omega)),
    sum_onehot (w := 16) (by omega) _ _ (lt_trans h2 (by omega)), sum_onehot (w := 13) (by omega) _ _ (lt_trans h3 (by omega)),
    sum_onehot (w := 10) (by omega) _ _ h4, e0, e1, e2, e3, e4]
  have hsum : ∀ a b c d f g h : EReal, a + h + (b + (c + (d + f))) + g = a + b + c + d + f + g + h := fun a b c d f g h => by abel
  simp only [hsum]
  unfold score layer mix
  simp only [mul_comm (x7 _), mul_comm (x9 _), mul_comm (x11 _), mul_comm (x13 _)]

end Cert.WideDeep

end
-- ==== Proof.Entry.lean ====
/- What the kernel's windows hold at each grid point, entry by entry, in terms of the argument arrays: the host's
   transposes before the launch put each argument's entry (i, j) at (j, i). -/
module

public import proofs.«01_k».proof.Proof.Gen.KernelIdeal.Frame
public import Idealize.ShloMosaic.Lib.Pointwise
public import Idealize.ShloMosaic.Lib.Pipeline.ValueKit
public import Idealize.ShloMosaic.Lib.StableHlo.Run

@[expose] public section

set_option maxRecDepth 16384

noncomputable section

namespace Cert.WideDeep

open Idealize.ShloMosaic Idealize.ShloMosaic.TcCoe Idealize.SL.Sem Idealize.ShloMosaic.StableHlo Cert.KernelIdeal Cert.KernelIdeal.Gen
open Idealize.ShloMosaic.Pipeline (Dat Cfg Window)

variable (m : (ℓ : Loc nD τ sig) → Buf (Elt Ideal) ℓ) (c : Dev nD)

/-! ## The arrays the launch finds: the transposed arguments -/

/-- Each array that the host writes before the launch is its argument transposed. -/
theorem entry_v0 : V m c main_v0 = transpose S100x16384 [1, 0] (m ((c : Thread nD τ).loc main_arg0)) transposes_S16384x100_S100x16384_1_0 := by
  show StableHlo.after hostOps0 (fun b => m (c, b)) (Proc.devRef .tc main_v0) = _
  after_results
theorem entry_v1 : V m c main_v1 = transpose S13x16384 [1, 0] (m ((c : Thread nD τ).loc main_arg1)) transposes_S16384x13_S13x16384_1_0 := by
  show StableHlo.after hostOps0 (fun b => m (c, b)) (Proc.devRef .tc main_v1) = _
  after_results
theorem entry_v2 : V m c main_v2 = transpose S16x1000000 [1, 0] (m ((c : Thread nD τ).loc main_arg2)) transposes_S1000000x16_S16x1000000_1_0 := by
  show StableHlo.after hostOps0 (fun b => m (c, b)) (Proc.devRef .tc main_v2) = _
  after_results
theorem entry_v3 : V m c main_v3 = transpose S16x100000 [1, 0] (m ((c : Thread nD τ).loc main_arg3)) transposes_S100000x16_S16x100000_1_0 := by
  show StableHlo.after hostOps0 (fun b => m (c, b)) (Proc.devRef .tc main_v3) = _
  after_results
theorem entry_v4 : V m c main_v4 = transpose S16x20 [1, 0] (m ((c : Thread nD τ).loc main_arg4)) transposes_S20x16_S16x20_1_0 := by
  show StableHlo.after hostOps0 (fun b => m (c, b)) (Proc.devRef .tc main_v4) = _
  after_results
theorem entry_v5 : V m c main_v5 = transpose S64x88 [1, 0] (m ((c : Thread nD τ).loc main_arg7)) transposes_S88x64_S64x88_1_0 := by
  show StableHlo.after hostOps0 (fun b => m (c, b)) (Proc.devRef .tc main_v5) = _
  after_results
theorem entry_v6 : V m c main_v6 = transpose S32x64 [1, 0] (m ((c : Thread nD τ).loc main_arg9)) transposes_S64x32_S32x64_1_0 := by
  show StableHlo.after hostOps0 (fun b => m (c, b)) (Proc.devRef .tc main_v6) = _
  after_results
theorem entry_v7 : V m c main_v7 = transpose S16x32 [1, 0] (m ((c : Thread nD τ).loc main_arg11)) transposes_S32x16_S16x32_1_0 := by
  show StableHlo.after hostOps0 (fun b => m (c, b)) (Proc.devRef .tc main_v7) = _
  after_results
/-- The last one is its argument reshaped from a column to a row. -/
theorem entry_v8 : V m c main_v8 = shapeCast S1x116 (m ((c : Thread nD τ).loc main_arg13)) shapeCasts_S116x1_S1x116 := by
  show StableHlo.after hostOps0 (fun b => m (c, b)) (Proc.devRef .tc main_v8) = _
  after_results
  rfl

/-! ## The windows' blocks -/

/-- The blocks' positions: the two batch arrays move along the samples with the point, every other block stays at the origin. -/
theorem index0 : ∀ t : Fin cfg0.N, win0_0.index t = ![0, t.val] := by decide +kernel
theorem index1 : ∀ t : Fin cfg0.N, win0_1.index t = ![0, t.val] := by decide +kernel
theorem index2 : ∀ t : Fin cfg0.N, win0_2.index t = ![0, 0] := by decide +kernel
theorem index3 : ∀ t : Fin cfg0.N, win0_3.index t = ![0, 0] := by decide +kernel
theorem index4 : ∀ t : Fin cfg0.N, win0_4.index t = ![0, 0] := by decide +kernel
theorem index5 : ∀ t : Fin cfg0.N, win0_5.index t = ![0, 0] := by decide +kernel
theorem index6 : ∀ t : Fin cfg0.N, win0_6.index t = ![0, 0] := by decide +kernel
theorem index7 : ∀ t : Fin cfg0.N, win0_7.index t = ![0, 0] := by decide +kernel
theorem index9 : ∀ t : Fin cfg0.N, win0_9.index t = ![0, 0] := by decide +kernel
theorem index11 : ∀ t : Fin cfg0.N, win0_11.index t = ![0, 0] := by decide +kernel
theorem index13 : ∀ t : Fin cfg0.N, win0_13.index t = ![0, 0] := by decide +kernel
theorem index8 : ∀ t : Fin cfg0.N, win0_8.index t = ![0] := by decide +kernel
theorem index10 : ∀ t : Fin cfg0.N, win0_10.index t = ![0] := by decide +kernel
theorem index12 : ∀ t : Fin cfg0.N, win0_12.index t = ![0] := by decide +kernel
theorem index14 : ∀ t : Fin cfg0.N, win0_14.index t = ![0] := by decide +kernel

/-- Column `l` of the wide features' block at point `t` is row `b = 8192 t + l` of the argument. -/
theorem wide_at (t : Fin cfg0.N) (k : Fin 100) (l : Fin 8192) (b : Fin 16384) (hb : b.val = 8192 * t.val + l.val) :
    iblk m c 0 t (ix2 k l) = m ((c : Thread nD τ).loc main_arg0) (ix2 b k) := by
  have e : (win0_0.blk t).view.emb (ix2 k l) = ix2 k b := by
    blk_ext [index0]
  blk_simp [iblk]
  rw [entry_v0, e]
  pointwise []

/-- Column `l` of the index block at point `t` is row `b = 8192 t + l` of the argument. -/
theorem cat_at (t : Fin cfg0.N) (k : Fin 13) (l : Fin 8192) (b : Fin 16384) (hb : b.val = 8192 * t.val + l.val) :
    iblk m c 1 t (ix2 k l) = m ((c : Thread nD τ).loc main_arg1) (ix2 b k) := by
  have e : (win0_1.blk t).view.emb (ix2 k l) = ix2 k b := by
    blk_ext [index1]
  blk_simp [iblk]
  rw [entry_v1, e]
  pointwise []

/-- The third table's block is the argument transposed. -/
theorem table2_at (t : Fin cfg0.N) (i : Fin 16) (j : Fin 20) :
    iblk m c 4 t (ix2 i j) = m ((c : Thread nD τ).loc main_arg4) (ix2 j i) := by
  have e : (win0_4.blk t).view.emb (ix2 i j) = ix2 i j := by
    blk_ext [index4]
  blk_simp [iblk]
  rw [entry_v4, e]
  pointwise []

/-- The weights' blocks are the arguments transposed. -/
theorem w1_at (t : Fin cfg0.N) (i : Fin 64) (j : Fin 88) :
    iblk m c 7 t (ix2 i j) = m ((c : Thread nD τ).loc main_arg7) (ix2 j i) := by
  have e : (win0_7.blk t).view.emb (ix2 i j) = ix2 i j := by
    blk_ext [index7]
  blk_simp [iblk]
  rw [entry_v5, e]
  pointwise []

theorem w2_at (t : Fin cfg0.N) (i : Fin 32) (j : Fin 64) :
    iblk m c 9 t (ix2 i j) = m ((c : Thread nD τ).loc main_arg9) (ix2 j i) := by
  have e : (win0_9.blk t).view.emb (ix2 i j) = ix2 i j := by
    blk_ext [index9]
  blk_simp [iblk]
  rw [entry_v6, e]
  pointwise []

theorem w3_at (t : Fin cfg0.N) (i : Fin 16) (j : Fin 32) :
    iblk m c 11 t (ix2 i j) = m ((c : Thread nD τ).loc main_arg11) (ix2 j i) := by
  have e : (win0_11.blk t).view.emb (ix2 i j) = ix2 i j := by
    blk_ext [index11]
  blk_simp [iblk]
  rw [entry_v7, e]
  pointwise []

/-- The two small tables' blocks are the arguments. -/
theorem table3_at (t : Fin cfg0.N) (i : Fin 13) (j : Fin 16) :
    iblk m c 5 t (ix2 i j) = m ((c : Thread nD τ).loc main_arg5) (ix2 i j) := by
  have e : (win0_5.blk t).view.emb (ix2 i j) = ix2 i j := by
    blk_ext [index5]
  blk_simp [iblk]
  rw [V_main_arg5, e]

theorem table4_at (t : Fin cfg0.N) (i : Fin 10) (j : Fin 16) :
    iblk m c 6 t (ix2 i j) = m ((c : Thread nD τ).loc main_arg6) (ix2 i j) := by
  have e : (win0_6.blk t).view.emb (ix2 i j) = ix2 i j := by
    blk_ext [index6]
  blk_simp [iblk]
  rw [V_main_arg6, e]

/-- The biases' blocks are the arguments. -/
theorem b1_at (t : Fin cfg0.N) (i : Fin 64) :
    iblk m c 8 t (ix1 i) = m ((c : Thread nD τ).loc main_arg8) (ix1 i) := by
  have e : (win0_8.blk t).view.emb (ix1 i) = ix1 i := by
    blk_ext [index8]
  blk_simp [iblk]
  rw [V_main_arg8, e]

theorem b2_at (t : Fin cfg0.N) (i : Fin 32) :
    iblk m c 10 t (ix1 i) = m ((c : Thread nD τ).loc main_arg10) (ix1 i) := by
  have e : (win0_10.blk t).view.emb (ix1 i) = ix1 i := by
    blk_ext [index10]
  blk_simp [iblk]
  rw [V_main_arg10, e]

theorem b3_at (t : Fin cfg0.N) (i : Fin 16) :
    iblk m c 12 t (ix1 i) = m ((c : Thread nD τ).loc main_arg12) (ix1 i) := by
  have e : (win0_12.blk t).view.emb (ix1 i) = ix1 i := by
    blk_ext [index12]
  blk_simp [iblk]
  rw [V_main_arg12, e]

theorem b_at (t : Fin cfg0.N) (i : Fin 1) :
    iblk m c 14 t (ix1 i) = m ((c : Thread nD τ).loc main_arg14) (ix1 i) := by
  have e : (win0_14.blk t).view.emb (ix1 i) = ix1 i := by
    blk_ext [index14]
  blk_simp [iblk]
  rw [V_main_arg14, e]

/-- The last layer's weights are the argument's column laid as a row. -/
theorem w_at (t : Fin cfg0.N) (k : Fin 116) :
    iblk m c 13 t (ix2 0 k) = m ((c : Thread nD τ).loc main_arg13) (ix2 k 0) := by
  have e : (win0_13.blk t).view.emb (ix2 0 k) = ix2 0 k := by
    blk_ext [index13]
  blk_simp [iblk]
  rw [entry_v8, e]
  pointwise []

/-- The two large tables' blocks are the first 128 rows of the arguments, transposed. -/
theorem table0_at (t : Fin cfg0.N) (i : Fin 16) (j : Fin 128) (r : Fin 1000000) (hr : r.val = j.val) :
    X0_2 m c t (ix2 i j) = m ((c : Thread nD τ).loc main_arg2) (ix2 r i) := by
  unfold X0_2 Pipeline.Window.fill
  rw [dif_pos (moved0_2 t _)]
  blk_simp [iblk]
  have e : ∀ q, (∀ a, (q a).val = (ix2 i j a).val) → (win0_2.blk t).view.emb q = ix2 i r := fun q hq => by
    blk_ext [index2]
    · exact hq 0
    · exact (hq 1).trans hr.symm
  rw [entry_v2, e _ fun _ => rfl]
  pointwise []

theorem table1_at (t : Fin cfg0.N) (i : Fin 16) (j : Fin 128) (r : Fin 100000) (hr : r.val = j.val) :
    X0_3 m c t (ix2 i j) = m ((c : Thread nD τ).loc main_arg3) (ix2 r i) := by
  unfold X0_3 Pipeline.Window.fill
  rw [dif_pos (moved0_3 t _)]
  blk_simp [iblk]
  have e : ∀ q, (∀ a, (q a).val = (ix2 i j a).val) → (win0_3.blk t).view.emb q = ix2 i r := fun q hq => by
    blk_ext [index3]
    · exact hq 0
    · exact (hq 1).trans hr.symm
  rw [entry_v3, e _ fun _ => rfl]
  pointwise []

end Cert.WideDeep

end
-- ==== Proof.Result.lean ====
/- The result, row by row, as a function of the argument arrays: both programs' result is this one. -/
module

public import proofs.«01_k».proof.Proof.Score

@[expose] public section

noncomputable section

namespace Cert.WideDeep

open Idealize.ShloMosaic

/-- The five table rows that sample `b`'s categorical words name. -/
def rows (x1 : IVec ⟨2, ![16384, 13]⟩ 32) (x2 : FVec Ideal ⟨2, ![1000000, 16]⟩ .f32) (x3 : FVec Ideal ⟨2, ![100000, 16]⟩ .f32)
    (x4 : FVec Ideal ⟨2, ![20, 16]⟩ .f32) (x5 : FVec Ideal ⟨2, ![13, 16]⟩ .f32) (x6 : FVec Ideal ⟨2, ![10, 16]⟩ .f32)
    (hr : ∀ b t, (x1 (ix2 b t)).toNat < 10) (b : Fin 16384) : Fin 5 → Fin 16 → EReal
  | 0, d => x2 (ix2 ⟨(x1 (ix2 b 0)).toNat, by have := hr b 0; omega⟩ d)
  | 1, d => x3 (ix2 ⟨(x1 (ix2 b 1)).toNat, by have := hr b 1; omega⟩ d)
  | 2, d => x4 (ix2 ⟨(x1 (ix2 b 2)).toNat, by have := hr b 2; omega⟩ d)
  | 3, d => x5 (ix2 ⟨(x1 (ix2 b 3)).toNat, by have := hr b 3; omega⟩ d)
  | 4, d => x6 (ix2 ⟨(x1 (ix2 b 4)).toNat, by have := hr b 4; omega⟩ d)

/-- Sample `b`'s score: its wide features, its five table rows, its eight continuous features, and the weights. -/
def rowScore (x0 : FVec Ideal ⟨2, ![16384, 100]⟩ .f32) (x1 : IVec ⟨2, ![16384, 13]⟩ 32) (x2 : FVec Ideal ⟨2, ![1000000, 16]⟩ .f32)
    (x3 : FVec Ideal ⟨2, ![100000, 16]⟩ .f32) (x4 : FVec Ideal ⟨2, ![20, 16]⟩ .f32) (x5 : FVec Ideal ⟨2, ![13, 16]⟩ .f32)
    (x6 : FVec Ideal ⟨2, ![10, 16]⟩ .f32) (x7 : FVec Ideal ⟨2, ![88, 64]⟩ .f32) (x8 : FVec Ideal ⟨1, ![64]⟩ .f32) (x9 : FVec Ideal ⟨2, ![64, 32]⟩ .f32)
    (x10 : FVec Ideal ⟨1, ![32]⟩ .f32) (x11 : FVec Ideal ⟨2, ![32, 16]⟩ .f32) (x12 : FVec Ideal ⟨1, ![16]⟩ .f32)
    (x13 : FVec Ideal ⟨2, ![116, 1]⟩ .f32) (x14 : FVec Ideal ⟨1, ![1]⟩ .f32)
    (hr : ∀ b t, (x1 (ix2 b t)).toNat < 10) (b : Fin 16384) : EReal :=
  score (fun k => x0 (ix2 b k)) (rows x1 x2 x3 x4 x5 x6 hr b)
    (fun k => (FloatOps.sitofp .f32 (x1 (ix2 b ⟨5 + k.val, by omega⟩)) : Ideal .f32))
    (fun k n => x7 (ix2 k n)) (fun n => x8 (ix1 n)) (fun k n => x9 (ix2 k n)) (fun n => x10 (ix1 n))
    (fun k n => x11 (ix2 k n)) (fun n => x12 (ix1 n)) (fun k => x13 (ix2 k 0)) (x14 (ix1 0))

end Cert.WideDeep

end
-- ==== Proof.Array.lean ====
/- What the kernel's result holds after the run: row `b` is sample `b`'s score. -/
module

public import proofs.«01_k».proof.Proof.Block
public import proofs.«01_k».proof.Proof.Entry
public import proofs.«01_k».proof.Proof.Result

@[expose] public section

set_option maxRecDepth 16384

noncomputable section

namespace Cert.WideDeep

open Idealize.ShloMosaic Idealize.ShloMosaic.TcCoe Idealize.SL.Sem Idealize.ShloMosaic.StableHlo Cert.KernelIdeal Cert.KernelIdeal.Gen
open Idealize.ShloMosaic.Pipeline (Dat Cfg Window)

variable (m : (ℓ : Loc nD τ sig) → Buf (Elt Ideal) ℓ) (c : Dev nD)

/-- Sample `b`'s score, of the kernel's arguments on device `c`. -/
def kernelScore (hr : ∀ b t, (m ((c : Thread nD τ).loc main_arg1) (ix2 b t)).toNat < 10) (b : Fin 16384) : EReal :=
  rowScore (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9)) (m ((c : Thread nD τ).loc main_arg10)) (m ((c : Thread nD τ).loc main_arg11))
    (m ((c : Thread nD τ).loc main_arg12)) (m ((c : Thread nD τ).loc main_arg13)) (m ((c : Thread nD τ).loc main_arg14)) hr b

variable (hr : ∀ b t, (m ((c : Thread nD τ).loc main_arg1) (ix2 b t)).toNat < 10)

/-- Column `l` of the block left at point `t` is the score of sample `b = 8192 t + l`. -/
theorem outsAt_apply (t : Fin cfg0.N) (l : Fin 8192) (b : Fin 16384) (hb : b.val = 8192 * t.val + l.val) :
    outsAt0 m c t (ix3 0 0 l) = kernelScore m c hr b := by
  rw [outsAt_eq_stored]
  have hcat := fun k : Fin 13 => cat_at m c t k l b hb
  have hlt : ∀ k : Fin 13, (iblk m c 1 t (ix2 k l) : BitVec 32).toNat < 10 := fun k => by rw [hcat k]; exact hr b k
  refine (stored_apply _ _ _ _ _ _ _ _ _ _ _ _ _ _ _ l
    (rows (m ((c : Thread nD τ).loc main_arg1)) (m ((c : Thread nD τ).loc main_arg2)) (m ((c : Thread nD τ).loc main_arg3))
      (m ((c : Thread nD τ).loc main_arg4)) (m ((c : Thread nD τ).loc main_arg5)) (m ((c : Thread nD τ).loc main_arg6)) hr b)
    (hlt 0) (hlt 1) (hlt 2) (hlt 3) (hlt 4) (fun d => ?_) (fun d => ?_) (fun d => ?_) (fun d => ?_) (fun d => ?_)).trans ?_
  · exact table0_at m c t d _ _ (congrArg BitVec.toNat (hcat 0).symm)
  · exact table1_at m c t d _ _ (congrArg BitVec.toNat (hcat 1).symm)
  · refine (table2_at m c t d _).trans ?_
    exact congrArg (fun r => m ((c : Thread nD τ).loc main_arg4) (ix2 r d)) (Fin.ext (congrArg BitVec.toNat (hcat 2)))
  · refine (table3_at m c t _ d).trans ?_
    exact congrArg (fun r => m ((c : Thread nD τ).loc main_arg5) (ix2 r d)) (Fin.ext (congrArg BitVec.toNat (hcat 3)))
  · refine (table4_at m c t _ d).trans ?_
    exact congrArg (fun r => m ((c : Thread nD τ).loc main_arg6) (ix2 r d)) (Fin.ext (congrArg BitVec.toNat (hcat 4)))
  · unfold kernelScore rowScore
    simp only [wide_at m c t _ l b hb, hcat, w1_at, b1_at, w2_at, b2_at, w3_at, b3_at, w_at, b_at]

theorem index15 : ∀ t : Fin cfg0.N, win0_15.index t = ![t.val, 0, 0] := by decide +kernel
theorem index15_inj : ∀ t t' : Fin cfg0.N, win0_15.flush t = true → win0_15.flush t' = true → win0_15.index t = win0_15.index t' → t = t' := by decide +kernel

/-- The kernel's output array: entry (t, 0, l) is the score of sample `8192 t + l`. -/
theorem arrAt_apply (t : Fin 2) (l : Fin 8192) (b : Fin 16384) (hb : b.val = 8192 * t.val + l.val) :
    (dats m 0 c).arrAt 15 cfg0.N (ix3 t 0 l) = kernelScore m c hr b := by
  have h := (dats m 0 c).arrAt_emb_eq_flushed 15 (Pipeline.Window.hdisj_of_index_inj _ index15_inj) (t.cast N_0.symm) (flush0_15 _) (ix3 0 0 l)
  have e : (win0_15.blk (t.cast N_0.symm)).view.emb (ix3 0 0 l) = ix3 t 0 l := by
    blk_ext [index15]
    exact Nat.add_zero _
  blk_simp at h
  rw [e, after0_15] at h
  exact h.trans (outsAt_apply m c hr _ l b hb)

/-- The reshape after the launch. -/
theorem tail_v10 : Pipeline.afterTail₀ cfgs (dats m) 0 (V0 m) [hostOps1] c main_v10
    = shapeCast S16384x1 ((dats m 0 c).arrAt 15 cfg0.N) shapeCasts_S2x1x8192_S16384x1 := by
  unfold Pipeline.afterTail₀
  show StableHlo.after hostOps1 _ (Proc.devRef .tc main_v10) = _
  after_results
  exact congrArg (fun A => shapeCast S16384x1 A shapeCasts_S2x1x8192_S16384x1)
    (Pipeline.withArrays_arr (cfgs 0).spec winFacts0.arr_inj c (V0 m c) (fun w => (dats m 0 c).arrAt w (cfgs 0).N) 15)

/-- The reshape at a row: row `b` of the result is the entry (b / 8192, 0, b mod 8192) of the array. -/
theorem reshape_apply (A : Vec Ideal S2x1x8192 .f32) (b : Fin 16384) :
    shapeCast S16384x1 A shapeCasts_S2x1x8192_S16384x1 (ix2 b 0)
      = A (ix3 ⟨b.val / 8192, by omega⟩ 0 ⟨b.val % 8192, by omega⟩) := by
  pointwise []

/-- An array that holds the scores block by block is reshaped to the scores row by row. -/
theorem reshape_eq (A : Vec Ideal S2x1x8192 .f32) (f : Fin 16384 → EReal)
    (h : ∀ (t : Fin 2) (l : Fin 8192) (b : Fin 16384), b.val = 8192 * t.val + l.val → A (ix3 t 0 l) = f b) :
    shapeCast S16384x1 A shapeCasts_S2x1x8192_S16384x1 = fun i => f (i 0) := by
  funext i
  idx_vars i
  obtain rfl : i1 = 0 := Subsingleton.elim _ _
  rw [reshape_apply]
  exact h _ _ i0 (by show i0.val = 8192 * (i0.val / 8192) + i0.val % 8192; omega)

/-- THE KERNEL'S RESULT: row `b` is sample `b`'s score. -/
theorem result_v10 : Pipeline.afterTail₀ cfgs (dats m) 0 (V0 m) [hostOps1] c main_v10 = fun i => kernelScore m c hr (i 0) := by
  rw [tail_v10]
  exact reshape_eq _ _ (arrAt_apply m c hr)

/-- The kernel's run: every fair execution ends with the result at the scores and the arguments unchanged. -/
theorem kernel_run (ρ : Dev nD → PrngReg) (hr : ∀ c : Dev nD, ∀ b t, (m ((c : Thread nD τ).loc main_arg1) (ix2 b t)).toNat < 10) :
    θ_run defs (onTc (τ := τ) (main (F := Ideal))) ⟨m, fun _ => 0, ρ⟩ (fun r => ∀ c : Dev nD,
      r.2.mem ((c.tc : Thread nD τ).loc main_v10) = (fun i => kernelScore m c (hr c) (i 0))) :=
  (θ_run defs _ _).mono (fun r h c => ((h c).2 main_v10 (Pipeline.mem_restRefs_of main_v10 (by decide) (by decide))).trans
    (result_v10 m c (hr c))) (run_main m ρ)

end Cert.WideDeep

end
-- ==== Proof.Takes.lean ====
/- The reference's five table lookups, under the precondition: each reads the row that the sample's word names. -/
module

public import proofs.«01_k».proof.Proof.Gen.ReferenceIdeal.Read
public import Idealize.ShloMosaic.Lib.Pointwise
public import Idealize.ShloMosaic.Lib.ReduceAll
public import Idealize.ShloMosaic.Lib.Affine
public import Idealize.ShloMosaic.Lib.Routing.Ops

@[expose] public section

set_option maxRecDepth 16384

noncomputable section

namespace Cert.WideDeep

open Idealize.ShloMosaic Cert.ReferenceIdeal Cert.ReferenceIdeal.Gen Cert.ReferenceIdeal.Read

/-- A word below 10 reads the same signed as unsigned. -/
theorem toInt_of_lt {v : BitVec 32} (hv : v.toNat < 10) : v.toInt = v.toNat := by
  rw [BitVec.toInt_eq_toNat_cond, if_pos (by omega)]

/-- The lookup's wrapping of negative indices leaves a word below 10 as it is. -/
theorem wrap_of_lt {v : BitVec 32} (hv : v.toNat < 10) (n : BitVec 32) :
    Scalar.select (IntOp.cmpi .slt v 0#32) (IntOp.addi v n) v = v := by
  have h : IntOp.cmpi .slt v 0#32 ≠ 1#1 := fun e => by
    have := IntOp.cmpi_slt.1 e
    rw [toInt_of_lt hv, show (0#32 : BitVec 32).toInt = 0 by decide] at this
    omega
  exact if_neg h

/-- The lookup's mask: where every index is below 10 and the table's last row is at least 9, the reduced bounds test is 1. -/
theorem mask_of_lt (idx z hi : IVec S16384x1 32) (one : IVec S_ 1) (c : ℕ) (hc : 9 ≤ c) (hc' : c < 2 ^ 31)
    (hidx : ∀ i, (idx i).toNat < 10) (hz : ∀ i, z i = 0#32) (hhi : ∀ i, hi i = BitVec.ofNat 32 c) (ho : ∀ i, one i = 1#1)
    (h : S16384x1.ReducesTo [1] S16384) (hu : 0 < S_.numel) (j : S16384.Idx) :
    Host.reduce IntOp.andi (andi (cmpi .sge idx z) (cmpi .sle idx hi)) one h hu j = 1#1 := by
  refine Host.reduce_andi_one _ _ _ _ _ (ho _) fun i => IntOp.andi_eq_one.2 ⟨IntOp.cmpi_sge.2 ?_, IntOp.cmpi_sle.2 ?_⟩
  · rw [hz, toInt_of_lt (hidx i), show (0#32 : BitVec 32).toInt = 0 by decide]
    omega
  · have hi9 := hidx i
    rw [hhi, toInt_of_lt hi9, BitVec.toInt_eq_toNat_cond, BitVec.toNat_ofNat, Nat.mod_eq_of_lt (by omega), if_pos (by omega)]
    omega

/-- ONE LOOKUP, for a table of any `N ≥ 10` rows: where the mask is 1 and the index word is `v` below 10, the looked-up entry is
    the table's entry in row `v`. -/
theorem take_row {N : ℕ} (hN : 10 ≤ N) (hN' : N < 2 ^ 31) (d : GatherDims (Routing.shape2 N 16) (Routing.shape2 16384 1) (Routing.shape2 16384 16))
    (hoff : d.offsetDims = [1]) (hcoll : d.collapsedSliceDims = [0]) (hob : d.operandBatchingDims = [])
    (hsim : d.startIndexMap = [0]) (hivd : d.indexVectorDim = 1)
    (tab : FVec Ideal (Routing.shape2 N 16) .f32) (idx : IVec (Routing.shape2 16384 1) 32) (b : Fin 16384) (k : Fin 16)
    (mask : BitVec 1) (fill : Ideal .f32) (v : BitVec 32) (hv : v.toNat < 10) (hidx : idx (ix2 b 0) = v) (hmask : mask = 1#1) :
    Scalar.select mask (Host.gather d tab idx (ix2 b k)) fill = tab (ix2 ⟨v.toNat, by omega⟩ k) := by
  subst hmask
  have e : ∀ {n0 n1 : ℕ} (p : Fin n0) (q : Fin n1), ix2 p q = ValueIdx.ix2 p q := fun p q => rfl
  refine (if_pos rfl).trans ?_
  rw [e b k, Routing.gather_row d hoff hcoll hob hsim hivd tab idx b k ⟨v.toNat, by omega⟩ ?_ hN']
  · rfl
  · refine (congrArg idx (e b 0).symm).trans (hidx.trans ?_)
    simp

section
variable (x1 : IVec S16384x13 32) (hr : ∀ b t, (x1 (ix2 b t)).toNat < 10)
include hr

/-- Lookup 0's index column is column 0 of the index array. -/
theorem idx0 (b : Fin 16384) : val_main_call0_v5 (F := Ideal) x1 (ix2 b 0) = x1 (ix2 b 0) := by
  pointwise [val_main_call0_v5, val_main_call0_v4, val_main_call0_v3, val_main_call0_v2, val_main_call0_v1, val_main_call0_v0, val_main_call0_c_0, val_main_call0_c, val_main_v1, val_main_v0]
  exact wrap_of_lt (hr b 0) _

/-- Lookup 0 reads its table's row at the sample's word 0. -/
theorem take0 (x2 : FVec Ideal S1000000x16 .f32) (b : Fin 16384) (k : Fin 16) :
    val_main_v2 (F := Ideal) x1 x2 (ix2 b k) = x2 (ix2 ⟨(x1 (ix2 b 0)).toNat, by have := hr b 0; omega⟩ k) := by
  rw [val_main_v2_apply, val_main_call0_v14_apply]
  refine take_row (by omega) (by omega) gather_S1000000x16_S16384x1_S16384x16_1_0_n_n_0_1_116 rfl rfl rfl rfl rfl x2 _ b k _ _ _
    (hr b 0) (idx0 x1 hr b) ?_
  refine mask_of_lt _ _ _ _ 999999 (by omega) (by omega) (fun i => ?_) (fun i => rfl) (fun i => rfl) (fun i => rfl) _ _ _
  idx_vars i
  rw [Subsingleton.elim i1 0, idx0 x1 hr]
  exact hr _ _

/-- Lookup 1's index column is column 1 of the index array. -/
theorem idx1 (b : Fin 16384) : val_main_call1_v5 (F := Ideal) x1 (ix2 b 0) = x1 (ix2 b 1) := by
  pointwise [val_main_call1_v5, val_main_call1_v4, val_main_call1_v3, val_main_call1_v2, val_main_call1_v1, val_main_call1_v0, val_main_call1_c_0, val_main_call1_c, val_main_v4, val_main_v3]
  exact wrap_of_lt (hr b 1) _

/-- Lookup 1 reads its table's row at the sample's word 1. -/
theorem take1 (x3 : FVec Ideal S100000x16 .f32) (b : Fin 16384) (k : Fin 16) :
    val_main_v5 (F := Ideal) x1 x3 (ix2 b k) = x3 (ix2 ⟨(x1 (ix2 b 1)).toNat, by have := hr b 1; omega⟩ k) := by
  rw [val_main_v5_apply, val_main_call1_v14_apply]
  refine take_row (by omega) (by omega) gather_S100000x16_S16384x1_S16384x16_1_0_n_n_0_1_116 rfl rfl rfl rfl rfl x3 _ b k _ _ _
    (hr b 1) (idx1 x1 hr b) ?_
  refine mask_of_lt _ _ _ _ 99999 (by omega) (by omega) (fun i => ?_) (fun i => rfl) (fun i => rfl) (fun i => rfl) _ _ _
  idx_vars i
  rw [Subsingleton.elim i1 0, idx1 x1 hr]
  exact hr _ _

/-- Lookup 2's index column is column 2 of the index array. -/
theorem idx2 (b : Fin 16384) : val_main_call2_v5 (F := Ideal) x1 (ix2 b 0) = x1 (ix2 b 2) := by
  pointwise [val_main_call2_v5, val_main_call2_v4, val_main_call2_v3, val_main_call2_v2, val_main_call2_v1, val_main_call2_v0, val_main_call2_c_0, val_main_call2_c, val_main_v7, val_main_v6]
  exact wrap_of_lt (hr b 2) _

/-- Lookup 2 reads its table's row at the sample's word 2. -/
theorem take2 (x4 : FVec Ideal S20x16 .f32) (b : Fin 16384) (k : Fin 16) :
    val_main_v8 (F := Ideal) x1 x4 (ix2 b k) = x4 (ix2 ⟨(x1 (ix2 b 2)).toNat, by have := hr b 2; omega⟩ k) := by
  rw [val_main_v8_apply, val_main_call2_v14_apply]
  refine take_row (by omega) (by omega) gather_S20x16_S16384x1_S16384x16_1_0_n_n_0_1_116 rfl rfl rfl rfl rfl x4 _ b k _ _ _
    (hr b 2) (idx2 x1 hr b) ?_
  refine mask_of_lt _ _ _ _ 19 (by omega) (by omega) (fun i => ?_) (fun i => rfl) (fun i => rfl) (fun i => rfl) _ _ _
  idx_vars i
  rw [Subsingleton.elim i1 0, idx2 x1 hr]
  exact hr _ _

/-- Lookup 3's index column is column 3 of the index array. -/
theorem idx3 (b : Fin 16384) : val_main_call3_v5 (F := Ideal) x1 (ix2 b 0) = x1 (ix2 b 3) := by
  pointwise [val_main_call3_v5, val_main_call3_v4, val_main_call3_v3, val_main_call3_v2, val_main_call3_v1, val_main_call3_v0, val_main_call3_c_0, val_main_call3_c, val_main_v10, val_main_v9]
  exact wrap_of_lt (hr b 3) _

/-- Lookup 3 reads its table's row at the sample's word 3. -/
theorem take3 (x5 : FVec Ideal S13x16 .f32) (b : Fin 16384) (k : Fin 16) :
    val_main_v11 (F := Ideal) x1 x5 (ix2 b k) = x5 (ix2 ⟨(x1 (ix2 b 3)).toNat, by have := hr b 3; omega⟩ k) := by
  rw [val_main_v11_apply, val_main_call3_v14_apply]
  refine take_row (by omega) (by omega) gather_S13x16_S16384x1_S16384x16_1_0_n_n_0_1_116 rfl rfl rfl rfl rfl x5 _ b k _ _ _
    (hr b 3) (idx3 x1 hr b) ?_
  refine mask_of_lt _ _ _ _ 12 (by omega) (by omega) (fun i => ?_) (fun i => rfl) (fun i => rfl) (fun i => rfl) _ _ _
  idx_vars i
  rw [Subsingleton.elim i1 0, idx3 x1 hr]
  exact hr _ _

/-- Lookup 4's index column is column 4 of the index array. -/
theorem idx4 (b : Fin 16384) : val_main_call4_v5 (F := Ideal) x1 (ix2 b 0) = x1 (ix2 b 4) := by
  pointwise [val_main_call4_v5, val_main_call4_v4, val_main_call4_v3, val_main_call4_v2, val_main_call4_v1, val_main_call4_v0, val_main_call4_c_0, val_main_call4_c, val_main_v13, val_main_v12]
  exact wrap_of_lt (hr b 4) _

/-- Lookup 4 reads its table's row at the sample's word 4. -/
theorem take4 (x6 : FVec Ideal S10x16 .f32) (b : Fin 16384) (k : Fin 16) :
    val_main_v14 (F := Ideal) x1 x6 (ix2 b k) = x6 (ix2 ⟨(x1 (ix2 b 4)).toNat, by have := hr b 4; omega⟩ k) := by
  rw [val_main_v14_apply, val_main_call4_v14_apply]
  refine take_row (by omega) (by omega) gather_S10x16_S16384x1_S16384x16_1_0_n_n_0_1_116 rfl rfl rfl rfl rfl x6 _ b k _ _ _
    (hr b 4) (idx4 x1 hr b) ?_
  refine mask_of_lt _ _ _ _ 9 (by omega) (by omega) (fun i => ?_) (fun i => rfl) (fun i => rfl) (fun i => rfl) _ _ _
  idx_vars i
  rw [Subsingleton.elim i1 0, idx4 x1 hr]
  exact hr _ _
end

end Cert.WideDeep

end
-- ==== Proof.Reference.lean ====
/- What the reference computes: each row of its result is the score of that row. -/
module

public import proofs.«01_k».proof.Proof.Takes
public import proofs.«01_k».proof.Proof.Score

@[expose] public section

set_option maxRecDepth 16384

noncomputable section

namespace Cert.WideDeep

open Idealize.ShloMosaic Cert.ReferenceIdeal Cert.ReferenceIdeal.Gen Cert.ReferenceIdeal.Read

/-- A sum over the 88 features is the sum of the six parts' own sums. -/
theorem sum_features (F : Fin 88 → EReal) :
    ∑ x : Fin 88, F x = (∑ i : Fin 16, F ⟨i.val, by omega⟩) + ((∑ i : Fin 16, F ⟨16 + i.val, by omega⟩)
      + ((∑ i : Fin 16, F ⟨16 + (16 + i.val), by omega⟩) + ((∑ i : Fin 16, F ⟨16 + (16 + (16 + i.val)), by omega⟩)
      + ((∑ i : Fin 16, F ⟨16 + (16 + (16 + (16 + i.val))), by omega⟩)
      + ∑ i : Fin 8, F ⟨16 + (16 + (16 + (16 + (16 + i.val)))), by omega⟩)))) := by
  rw [show (∑ x : Fin 88, F x) = ∑ x : Fin (16 + (16 + (16 + (16 + (16 + 8))))), F ⟨x.val, x.isLt⟩ from rfl]
  rw [Fin.sum_univ_add, Fin.sum_univ_add, Fin.sum_univ_add, Fin.sum_univ_add, Fin.sum_univ_add]
  rfl

/-- The first layer of the reference, before its relu, is `mix` of the looked-up rows and the continuous features. -/
theorem first_apply (x1 : IVec S16384x13 32) (x2 : FVec Ideal S1000000x16 .f32) (x3 : FVec Ideal S100000x16 .f32) (x4 : FVec Ideal S20x16 .f32)
    (x5 : FVec Ideal S13x16 .f32) (x6 : FVec Ideal S10x16 .f32) (x7 : FVec Ideal S88x64 .f32) (x8 : FVec Ideal S64 .f32)
    (hr : ∀ b t, (x1 (ix2 b t)).toNat < 10) (b : Fin 16384) (e : Fin 5 → Fin 16 → EReal)
    (e0 : ∀ d, x2 (ix2 ⟨(x1 (ix2 b 0)).toNat, by have := hr b 0; omega⟩ d) = e 0 d)
    (e1 : ∀ d, x3 (ix2 ⟨(x1 (ix2 b 1)).toNat, by have := hr b 1; omega⟩ d) = e 1 d)
    (e2 : ∀ d, x4 (ix2 ⟨(x1 (ix2 b 2)).toNat, by have := hr b 2; omega⟩ d) = e 2 d)
    (e3 : ∀ d, x5 (ix2 ⟨(x1 (ix2 b 3)).toNat, by have := hr b 3; omega⟩ d) = e 3 d)
    (e4 : ∀ d, x6 (ix2 ⟨(x1 (ix2 b 4)).toNat, by have := hr b 4; omega⟩ d) = e 4 d) (n : Fin 64) :
    val_main_v21 (F := Ideal) x1 x2 x3 x4 x5 x6 x7 x8 (ix2 b n)
      = mix e (fun k => (FloatOps.sitofp .f32 (x1 (ix2 b ⟨5 + k.val, by omega⟩)) : Ideal .f32)) (fun k n => x7 (ix2 k n)) (fun n => x8 (ix1 n)) n := by
  pointwise [val_main_v21, val_main_v20, val_main_v19, val_main_v18, val_main_v17, val_main_v16, val_main_v15]
  simp only [take0 x1 hr, take1 x1 hr, take2 x1 hr, take3 x1 hr, take4 x1 hr, e0, e1, e2, e3, e4]
  have d1 : ∀ i : ℕ, ¬ (16 + i < 16) := fun i => by omega
  simp only [sum_features, Fin.is_lt, dite_true, d1, dite_false, Nat.add_sub_cancel_left]
  unfold mix
  simp only [← Nat.add_assoc, Nat.reduceAdd, ← add_assoc]

/-- THE REFERENCE AT A ROW: row `b` of the result is the score of row `b`, where `e t` is the row of table `t` that the sample's
    categorical word `t` names. -/
theorem reference_apply (x0 : FVec Ideal S16384x100 .f32) (x1 : IVec S16384x13 32) (x2 : FVec Ideal S1000000x16 .f32) (x3 : FVec Ideal S100000x16 .f32)
    (x4 : FVec Ideal S20x16 .f32) (x5 : FVec Ideal S13x16 .f32) (x6 : FVec Ideal S10x16 .f32) (x7 : FVec Ideal S88x64 .f32)
    (x8 : FVec Ideal S64 .f32) (x9 : FVec Ideal S64x32 .f32) (x10 : FVec Ideal S32 .f32) (x11 : FVec Ideal S32x16 .f32)
    (x12 : FVec Ideal S16 .f32) (x13 : FVec Ideal S116x1 .f32) (x14 : FVec Ideal S1 .f32)
    (hr : ∀ b t, (x1 (ix2 b t)).toNat < 10) (b : Fin 16384) (e : Fin 5 → Fin 16 → EReal)
    (e0 : ∀ d, x2 (ix2 ⟨(x1 (ix2 b 0)).toNat, by have := hr b 0; omega⟩ d) = e 0 d)
    (e1 : ∀ d, x3 (ix2 ⟨(x1 (ix2 b 1)).toNat, by have := hr b 1; omega⟩ d) = e 1 d)
    (e2 : ∀ d, x4 (ix2 ⟨(x1 (ix2 b 2)).toNat, by have := hr b 2; omega⟩ d) = e 2 d)
    (e3 : ∀ d, x5 (ix2 ⟨(x1 (ix2 b 3)).toNat, by have := hr b 3; omega⟩ d) = e 3 d)
    (e4 : ∀ d, x6 (ix2 ⟨(x1 (ix2 b 4)).toNat, by have := hr b 4; omega⟩ d) = e 4 d) :
    val_main_v43 (F := Ideal) x0 x1 x2 x3 x4 x5 x6 x7 x8 x9 x10 x11 x12 x13 x14 (ix2 b 0)
      = score (fun k => x0 (ix2 b k)) e (fun k => (FloatOps.sitofp .f32 (x1 (ix2 b ⟨5 + k.val, by omega⟩)) : Ideal .f32))
          (fun k n => x7 (ix2 k n)) (fun n => x8 (ix1 n)) (fun k n => x9 (ix2 k n)) (fun n => x10 (ix1 n))
          (fun k n => x11 (ix2 k n)) (fun n => x12 (ix1 n)) (fun k => x13 (ix2 k 0)) (x14 (ix1 0)) := by
  pointwise [val_main_v43, val_main_v42, val_main_v41, val_main_v40, val_main_v39, val_main_v38, val_main_v37, val_main_v36,
    val_main_v35, val_main_v34, val_main_v33, val_main_cst, val_main_cst_0, val_main_v32, val_main_v31, val_main_v30, val_main_v29, val_main_v28,
    val_main_v27, val_main_v26, val_main_v25, val_main_v24, val_main_v23, val_main_v22, val_main_call5_v0, val_main_call6_v0, val_main_call7_v0,
    val_main_call5_cst, val_main_call6_cst, val_main_call7_cst]
  simp only [first_apply x1 x2 x3 x4 x5 x6 x7 x8 hr b e e0 e1 e2 e3 e4]
  rfl

end Cert.WideDeep

end
-- ==== Proof.Equation.lean ====
/- The equation: on equal arguments the two programs' results are the same array of scores. -/
module

public import proofs.«01_k».proof.Proof.Array
public import proofs.«01_k».proof.Proof.Reference
public import proofs.«01_k».proof.Proof.Gen.ReferenceIdeal.Run
public import proofs.«01_k».proof.Proof.Gen.ReferenceIdeal.Read

@[expose] public section

set_option maxRecDepth 16384

noncomputable section

namespace Cert.WideDeep

open Idealize.ShloMosaic Idealize.SL.Sem

section
open Cert.ReferenceIdeal Cert.ReferenceIdeal.Read

/-- The reference's whole result: row `b` is the score of sample `b`. -/
theorem reference_eq (x0 : FVec Ideal S16384x100 .f32) (x1 : IVec S16384x13 32) (x2 : FVec Ideal S1000000x16 .f32) (x3 : FVec Ideal S100000x16 .f32)
    (x4 : FVec Ideal S20x16 .f32) (x5 : FVec Ideal S13x16 .f32) (x6 : FVec Ideal S10x16 .f32) (x7 : FVec Ideal S88x64 .f32)
    (x8 : FVec Ideal S64 .f32) (x9 : FVec Ideal S64x32 .f32) (x10 : FVec Ideal S32 .f32) (x11 : FVec Ideal S32x16 .f32)
    (x12 : FVec Ideal S16 .f32) (x13 : FVec Ideal S116x1 .f32) (x14 : FVec Ideal S1 .f32)
    (hr : ∀ b t, (x1 (ix2 b t)).toNat < 10) :
    val_main_v43 (F := Ideal) x0 x1 x2 x3 x4 x5 x6 x7 x8 x9 x10 x11 x12 x13 x14
      = fun i => rowScore x0 x1 x2 x3 x4 x5 x6 x7 x8 x9 x10 x11 x12 x13 x14 hr (i 0) := by
  have row : ∀ b : Fin 16384, val_main_v43 (F := Ideal) x0 x1 x2 x3 x4 x5 x6 x7 x8 x9 x10 x11 x12 x13 x14 (ix2 b 0)
      = rowScore x0 x1 x2 x3 x4 x5 x6 x7 x8 x9 x10 x11 x12 x13 x14 hr b := fun b =>
    reference_apply x0 x1 x2 x3 x4 x5 x6 x7 x8 x9 x10 x11 x12 x13 x14 hr b (rows x1 x2 x3 x4 x5 x6 hr b)
      (fun _ => rfl) (fun _ => rfl) (fun _ => rfl) (fun _ => rfl) (fun _ => rfl)
  funext i
  have hi : i = ix2 (i 0) 0 := by
    funext a
    match a with
    | ⟨0, _⟩ => rfl
    | ⟨1, _⟩ => exact Subsingleton.elim (α := Fin 1) _ _
  generalize hb : i 0 = b at hi
  rw [hi]
  exact row b

end

/-- Equal arguments: from arrays equal to the kernel's, in range, the reference's result is the array of the kernel's scores. -/
theorem reference_of_equal (m : (ℓ : Loc Cert.KernelIdeal.nD Cert.KernelIdeal.τ Cert.KernelIdeal.sig) → Buf (Elt Ideal) ℓ) (c : Dev Cert.KernelIdeal.nD)
    (hr : ∀ b t, (m ((c.tc : Thread Cert.KernelIdeal.nD Cert.KernelIdeal.τ).loc Cert.KernelIdeal.main_arg1) (ix2 b t)).toNat < 10)
    {x0 : FVec Ideal Cert.ReferenceIdeal.S16384x100 .f32} {x1 : IVec Cert.ReferenceIdeal.S16384x13 32}
    {x2 : FVec Ideal Cert.ReferenceIdeal.S1000000x16 .f32} {x3 : FVec Ideal Cert.ReferenceIdeal.S100000x16 .f32}
    {x4 : FVec Ideal Cert.ReferenceIdeal.S20x16 .f32} {x5 : FVec Ideal Cert.ReferenceIdeal.S13x16 .f32}
    {x6 : FVec Ideal Cert.ReferenceIdeal.S10x16 .f32} {x7 : FVec Ideal Cert.ReferenceIdeal.S88x64 .f32}
    {x8 : FVec Ideal Cert.ReferenceIdeal.S64 .f32} {x9 : FVec Ideal Cert.ReferenceIdeal.S64x32 .f32}
    {x10 : FVec Ideal Cert.ReferenceIdeal.S32 .f32} {x11 : FVec Ideal Cert.ReferenceIdeal.S32x16 .f32}
    {x12 : FVec Ideal Cert.ReferenceIdeal.S16 .f32} {x13 : FVec Ideal Cert.ReferenceIdeal.S116x1 .f32}
    {x14 : FVec Ideal Cert.ReferenceIdeal.S1 .f32}
    (h : x0 = m ((c.tc : Thread Cert.KernelIdeal.nD Cert.KernelIdeal.τ).loc Cert.KernelIdeal.main_arg0)
      ∧ x1 = m ((c.tc : Thread Cert.KernelIdeal.nD Cert.KernelIdeal.τ).loc Cert.KernelIdeal.main_arg1)
      ∧ x2 = m ((c.tc : Thread Cert.KernelIdeal.nD Cert.KernelIdeal.τ).loc Cert.KernelIdeal.main_arg2)
      ∧ x3 = m ((c.tc : Thread Cert.KernelIdeal.nD Cert.KernelIdeal.τ).loc Cert.KernelIdeal.main_arg3)
      ∧ x4 = m ((c.tc : Thread Cert.KernelIdeal.nD Cert.KernelIdeal.τ).loc Cert.KernelIdeal.main_arg4)
      ∧ x5 = m ((c.tc : Thread Cert.KernelIdeal.nD Cert.KernelIdeal.τ).loc Cert.KernelIdeal.main_arg5)
      ∧ x6 = m ((c.tc : Thread Cert.KernelIdeal.nD Cert.KernelIdeal.τ).loc Cert.KernelIdeal.main_arg6)
      ∧ x7 = m ((c.tc : Thread Cert.KernelIdeal.nD Cert.KernelIdeal.τ).loc Cert.KernelIdeal.main_arg7)
      ∧ x8 = m ((c.tc : Thread Cert.KernelIdeal.nD Cert.KernelIdeal.τ).loc Cert.KernelIdeal.main_arg8)
      ∧ x9 = m ((c.tc : Thread Cert.KernelIdeal.nD Cert.KernelIdeal.τ).loc Cert.KernelIdeal.main_arg9)
      ∧ x10 = m ((c.tc : Thread Cert.KernelIdeal.nD Cert.KernelIdeal.τ).loc Cert.KernelIdeal.main_arg10)
      ∧ x11 = m ((c.tc : Thread Cert.KernelIdeal.nD Cert.KernelIdeal.τ).loc Cert.KernelIdeal.main_arg11)
      ∧ x12 = m ((c.tc : Thread Cert.KernelIdeal.nD Cert.KernelIdeal.τ).loc Cert.KernelIdeal.main_arg12)
      ∧ x13 = m ((c.tc : Thread Cert.KernelIdeal.nD Cert.KernelIdeal.τ).loc Cert.KernelIdeal.main_arg13)
      ∧ x14 = m ((c.tc : Thread Cert.KernelIdeal.nD Cert.KernelIdeal.τ).loc Cert.KernelIdeal.main_arg14)) :
    Cert.ReferenceIdeal.Read.val_main_v43 (F := Ideal) x0 x1 x2 x3 x4 x5 x6 x7 x8 x9 x10 x11 x12 x13 x14
      = fun i => kernelScore m c hr (i 0) := by
  obtain ⟨h0, h1, h2, h3, h4, h5, h6, h7, h8, h9, h10, h11, h12, h13, h14⟩ := h
  subst h0 h1 h2 h3 h4 h5 h6 h7 h8 h9 h10 h11 h12 h13 h14
  exact reference_eq _ _ _ _ _ _ _ _ _ _ _ _ _ _ _ hr

end Cert.WideDeep

end
-- ==== Proof.Range.lean ====
/- The precondition read at an element: every categorical word is below 10. -/
module

public import proofs.«01_k».proof.Pre_in_range
public import Idealize.ShloMosaic.Lib.Pointwise
public import Idealize.ShloMosaic.Lib.ReduceAll
public import Idealize.ShloMosaic.Lib.Affine

@[expose] public section

set_option maxRecDepth 16384

noncomputable section

namespace Cert.WideDeep

open Idealize.ShloMosaic

/-- The shape relations that the precondition's operations take. -/
theorem preFacts : Cert.Pre_in_range.Facts where
  bcast_S_S16384x13 := by decide
  reducesTo_S16384x13_S_d0_1 := by decide
  h_S_ := by decide

/-- A word that is signed at least 0 and signed below 10 is below 10. -/
theorem toNat_lt_of_signed {v : BitVec 32} (hge : IntOp.cmpi .sge v 0#32 = 1#1) (hlt : IntOp.cmpi .slt v 10#32 = 1#1) : v.toNat < 10 := by
  have h1 := IntOp.cmpi_sge.1 hge
  have h2 := IntOp.cmpi_slt.1 hlt
  have e0 : (0#32 : BitVec 32).toInt = 0 := by decide
  have e1 : (10#32 : BitVec 32).toInt = 10 := by decide
  rw [e0] at h1
  rw [e1] at h2
  have h3 := v.isLt
  rw [BitVec.toInt_eq_toNat_cond] at h1 h2
  split at h1 <;> omega

section
open Cert.Pre_in_range

/-- THE PRECONDITION AT AN ELEMENT: where `in_range` holds, every entry of the index array is below 10. -/
theorem lt_of_in_range [Facts] {F : FTy → Type} [FloatOps F] {x0 : FVec F S16384x100 .f32} {x1 : IVec S16384x13 32} {x2 : FVec F S1000000x16 .f32} {x3 : FVec F S100000x16 .f32}
    {x4 : FVec F S20x16 .f32} {x5 : FVec F S13x16 .f32} {x6 : FVec F S10x16 .f32} {x7 : FVec F S88x64 .f32} {x8 : FVec F S64 .f32}
    {x9 : FVec F S64x32 .f32} {x10 : FVec F S32 .f32} {x11 : FVec F S32x16 .f32} {x12 : FVec F S16 .f32} {x13 : FVec F S116x1 .f32} {x14 : FVec F S1 .f32}
    (h : fn (F := F) x0 x1 x2 x3 x4 x5 x6 x7 x8 x9 x10 x11 x12 x13 x14 = fun _ => 1#1) (b : Fin 16384) (t : Fin 13) :
    (x1 (ix2 b t)).toNat < 10 := by
  haveI : Subsingleton S_.Idx := ⟨fun a b => funext fun i => i.elim0⟩
  have e := congrFun h (fun i => i.elim0)
  have e' := Host.reduce_andi_all _ _ _ _ _ e (ix2 b t)
  obtain ⟨hge, hlt⟩ := IntOp.andi_eq_one.1 e'
  exact toNat_lt_of_signed hge hlt
end

end Cert.WideDeep

end
-- ==== Proof.lean ====
module

public import proofs.«01_k».proof.Defs
public import proofs.«01_k».proof.Proof.Equation
public import proofs.«01_k».proof.Proof.Range
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import Idealize.ShloMosaic.Lib.Claim
public import Idealize.ShloMosaic.Lib.Quiescent

@[expose] public section

noncomputable section

namespace Cert.Proof

open Idealize.ShloMosaic Idealize.SL.Sem

/-- The facts about the shapes that the precondition's operations take. -/
instance rangeFacts : Cert.Pre_in_range.Facts := Cert.WideDeep.preFacts

/-- The reference runs from every memory, its arguments end unchanged, and it declares no semaphore. -/
theorem frame_reference : Cert.quiescent_ReferenceIdeal := fun m g _ =>
  (θ_run Cert.ReferenceIdeal.defs _ _).mono
    (fun r h => ⟨fun c => (h c).2, sem_eq_zero_of_no_sems (by decide) r.2⟩)
    (Cert.ReferenceIdeal.Value.run (F := Ideal) m g)

/-- The equation: where the precondition holds, both programs' results are the scores of the kernel's arguments. -/
theorem result_eq : Cert.algebraic_KernelIdeal_ReferenceIdeal_pre_in_range := by
  intro m g m' g' hpre hargs
  have hr := fun c => Cert.WideDeep.lt_of_in_range (hpre c)
  refine ⟨fun c i => Cert.WideDeep.kernelScore m c (hr c) (i 0), ?_, ?_⟩
  · exact (θ_run Cert.KernelIdeal.defs _ _).mono (fun r h c => ⟨h.1 c, h.2 c⟩)
      (θ_run_and (Cert.WideDeep.kernel_run m g hr) (Cert.KernelIdeal.Gen.unchanged m g))
  · exact (θ_run Cert.ReferenceIdeal.defs _ _).mono
      (fun r h c => ⟨(h c).1.trans ((Cert.ReferenceIdeal.Read.val_main_v43_eq m' c).trans
        (Cert.WideDeep.reference_of_equal m c (hr c) (hargs c))), (h c).2⟩)
      (Cert.ReferenceIdeal.Value.run (F := Ideal) m' g')

/-- All of the claims together. -/
theorem claim : Cert.Claim :=
  ⟨Cert.Kernel.Gen.facts, Cert.KernelIdeal.Gen.facts, Cert.ReferenceIdeal.Gen.facts, Cert.WideDeep.preFacts,
    fun m g _ => Cert.Kernel.Gen.frame m g,
    fun m g _ => Cert.KernelIdeal.Gen.frame m g,
    fun m g _ => Cert.KernelIdeal.Gen.frame m g,
    frame_reference,
    fun m g _ => frame_reference m g trivial,
    trivial,
    result_eq⟩

end Cert.Proof

end
